-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x32x8192 : Shape := ⟨3, ![128, 32, 8192]⟩
abbrev S_ : Shape := ⟨0, ![]⟩

class Facts : Prop where
  bcast_S_S128x32x8192 : S_.BroadcastsInDim S128x32x8192 (![] : Fin 0 → Fin S128x32x8192.rank)
  reducesTo_S128x32x8192_S_d0_1_2 : S128x32x8192.ReducesTo [0, 1, 2] S_
  h_S_ : 0 < S_.numel

variable [Facts]

def fn {F : FTy → Type} [FloatOps F] (main_arg0 : FVec F S128x32x8192 .f32) : IVec S_ 1 :=
  let main_v0 : FVec F S128x32x8192 .f32 := Host.absf main_arg0
  let main_cst : FVec F S_ .f32 := constant S_ .f32 0x7F800000#32
  let main_v1 : FVec F S128x32x8192 .f32 := broadcastInDim S128x32x8192 ![] bcast_S_S128x32x8192 main_cst
  let main_v2 : IVec S128x32x8192 1 := cmpf .olt main_v0 main_v1
  let main_c : IVec S_ 1 := constantI S_ 1 1#1
  let main_v3 : IVec S_ 1 := (fun x v => Host.reduce IntOp.andi x v reducesTo_S128x32x8192_S_d0_1_2 h_S_) main_v2 main_c
  main_v3
-- ==== Kernel.lean ====
abbrev S128x32x8192 : Shape := ⟨3, ![128, 32, 8192]⟩
abbrev S4096x8192 : Shape := ⟨2, ![4096, 8192]⟩
abbrev S1216x8192 : Shape := ⟨2, ![1216, 8192]⟩
abbrev S2x8192 : Shape := ⟨2, ![2, 8192]⟩
abbrev S_ : Shape := ⟨0, ![]⟩
abbrev S16 : Shape := ⟨1, ![16]⟩
abbrev S1x16 : Shape := ⟨2, ![1, 16]⟩
abbrev S1x8192 : Shape := ⟨2, ![1, 8192]⟩
abbrev S8192 : Shape := ⟨1, ![8192]⟩
abbrev S64x8192 : Shape := ⟨2, ![64, 8192]⟩
abbrev S64x256 : Shape := ⟨2, ![64, 256]⟩
abbrev S64 : Shape := ⟨1, ![64]⟩
abbrev S64x1 : Shape := ⟨2, ![64, 1]⟩

abbrev nBuf : Table → Nat
  | .hbm => 6
  | .local .tc .vmem => 10
  | .local .scVector .vmem => 1
  | _ => 0

abbrev bufTy : (tb : Table) → Fin (nBuf tb) → BufTy
  | .hbm, ⟨0, _⟩ => ⟨S128x32x8192, .f32⟩
  | .hbm, ⟨1, _⟩ => ⟨S4096x8192, .f32⟩
  | .hbm, ⟨2, _⟩ => ⟨S1216x8192, .i32⟩
  | .hbm, ⟨3, _⟩ => ⟨S4096x8192, .f32⟩
  | .hbm, ⟨4, _⟩ => ⟨S4096x8192, .f32⟩
  | .hbm, ⟨5, _⟩ => ⟨S128x32x8192, .f32⟩
  | .local .tc .vmem, ⟨0, _⟩ => ⟨S64x8192, .f32⟩
  | .local .tc .vmem, ⟨1, _⟩ => ⟨S64x8192, .f32⟩
  | .local .tc .vmem, ⟨2, _⟩ => ⟨S64x8192, .f32⟩
  | .local .tc .vmem, ⟨3, _⟩ => ⟨S64x8192, .f32⟩
  | .local .tc .vmem, ⟨4, _⟩ => ⟨S64x8192, .i32⟩
  | .local .tc .vmem, ⟨5, _⟩ => ⟨S64x8192, .i32⟩
  | .local .tc .vmem, ⟨6, _⟩ => ⟨S64x8192, .f32⟩
  | .local .tc .vmem, ⟨7, _⟩ => ⟨S64x8192, .f32⟩
  | .local .tc .vmem, ⟨8, _⟩ => ⟨S64x8192, .f32⟩
  | .local .tc .vmem, ⟨9, _⟩ => ⟨S64x8192, .f32⟩
  | .local .scVector .vmem, ⟨0, _⟩ => ⟨S2x8192, .i32⟩
  | _, _ => ⟨S128x32x8192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc0_scratch0 : Ref sig .scVector := ⟨.vmem, 0, rfl⟩
abbrev cc1_sem0_0 : DmaSem sig := 1
abbrev cc1_sem0_1 : DmaSem sig := 2
abbrev cc1_sem1_0 : DmaSem sig := 3
abbrev cc1_sem1_1 : DmaSem sig := 4
abbrev cc2_sem0_0 : DmaSem sig := 5
abbrev cc2_sem0_1 : DmaSem sig := 6
abbrev cc2_sem1_0 : DmaSem sig := 7
abbrev cc2_sem1_1 : DmaSem sig := 8
abbrev cc2_sem2_0 : DmaSem sig := 9
abbrev cc2_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c19_i32 : BitVec 32 := 19#32
  let v4 : BitVec 32 := Scalar.addi c0_i32_0 c19_i32
  let c1_i32 : BitVec 32 := 1#32
  ⟨c0_i32_0, v4, c1_i32⟩
@[reducible] def k0_t2_loop : Scf.Loop 32 :=
  let c0_i32_3 : BitVec 32 := 0#32
  let c512_i32 : BitVec 32 := 512#32
  let v12 : BitVec 32 := Scalar.addi c0_i32_3 c512_i32
  let c1_i32_4 : BitVec 32 := 1#32
  ⟨c0_i32_3, v12, c1_i32_4⟩
def k0_off1 (k0_t2 : Fin k0_t2_loop.trips) : Fin 2 → Nat :=
  let c0_i32_74 : BitVec 32 := 0#32
  let v221 : Index := Scalar.indexCast c0_i32_74
  let c0_i32_3 : BitVec 32 := 0#32
  let c1_i32_4 : BitVec 32 := 1#32
  let arg7 : BitVec 32 := Scf.iv c0_i32_3 c1_i32_4 k0_t2
  let c16_i32_73 : BitVec 32 := 16#32
  let v220 : BitVec 32 := Scalar.muli arg7 c16_i32_73
  let v222 : Index := Scalar.indexCast v220
  ![0, v222.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c38_i32 : BitVec 32 := 38#32
  let v2 : BitVec 32 := Scalar.muli v1 c38_i32
  let c0_i32_0 : BitVec 32 := 0#32
  let c1_i32 : BitVec 32 := 1#32
  let arg5 : BitVec 32 := Scf.iv c0_i32_0 c1_i32 k0_t1
  let c2_i32_6 : BitVec 32 := 2#32
  let v14 : BitVec 32 := Scalar.muli arg5 c2_i32_6
  let v15 : BitVec 32 := Scalar.addi v2 v14
  let c0_i32_9 : BitVec 32 := 0#32
  ![v15.toNat, 0]
@[reducible] def k0_t3_loop : Scf.Loop 32 :=
  let c0_i32_16 : BitVec 32 := 0#32
  let c512_i32_17 : BitVec 32 := 512#32
  let v31 : BitVec 32 := Scalar.addi c0_i32_16 c512_i32_17
  let c1_i32_18 : BitVec 32 := 1#32
  ⟨c0_i32_16, v31, c1_i32_18⟩
def k0_off3 (k0_t3 : Fin k0_t3_loop.trips) : Fin 2 → Nat :=
  let c1_i32_74 : BitVec 32 := 1#32
  let v221 : Index := Scalar.indexCast c1_i32_74
  let c0_i32_16 : BitVec 32 := 0#32
  let c1_i32_18 : BitVec 32 := 1#32
  let arg7 : BitVec 32 := Scf.iv c0_i32_16 c1_i32_18 k0_t3
  let c16_i32_73 : BitVec 32 := 16#32
  let v220 : BitVec 32 := Scalar.muli arg7 c16_i32_73
  let v222 : Index := Scalar.indexCast v220
  ![1, v222.toNat]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c38_i32 : BitVec 32 := 38#32
  let v2 : BitVec 32 := Scalar.muli v1 c38_i32
  let c0_i32_0 : BitVec 32 := 0#32
  let c1_i32 : BitVec 32 := 1#32
  let arg5 : BitVec 32 := Scf.iv c0_i32_0 c1_i32 k0_t1
  let c2_i32_20 : BitVec 32 := 2#32
  let v33 : BitVec 32 := Scalar.muli arg5 c2_i32_20
  let v34 : BitVec 32 := Scalar.addi v2 v33
  let c1_i32_21 : BitVec 32 := 1#32
  let v35 : BitVec 32 := Scalar.addi v34 c1_i32_21
  let c0_i32_24 : BitVec 32 := 0#32
  ![v35.toNat, 0]
abbrev grid1 : Pipeline.Grid := ⟨1, ![45], ![false]⟩

@[reducible] def k1_t1_loop : Scf.Loop 32 :=
  let c0_i32 : BitVec 32 := 0#32
  let c32_i32 : BitVec 32 := 32#32
  let v11 : BitVec 32 := Scalar.addi c0_i32 c32_i32
  let c1_i32 : BitVec 32 := 1#32
  ⟨c0_i32, v11, c1_i32⟩
def k1_off1 (k1_t1 : Fin k1_t1_loop.trips) : Fin 2 → Nat :=
  let c0_47 : Index := 0#32
  let c0_i32 : BitVec 32 := 0#32
  let c1_i32 : BitVec 32 := 1#32
  let arg3 : BitVec 32 := Scf.iv c0_i32 c1_i32 k1_t1
  let c256_i32 : BitVec 32 := 256#32
  let v28 : BitVec 32 := Scalar.muli arg3 c256_i32
  let v210 : Index := Scalar.indexCast v28
  ![0, v210.toNat]
def cc1_transform_0 (i : grid1.Coords) : Fin 2 → Nat :=
  let arg0 : BitVec 32 := BitVec.ofNat 32 (i 0).val
  let c19_i32 : BitVec 32 := 19#32
  let v0 : BitVec 32 := Scalar.addi arg0 c19_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c19_i32 : BitVec 32 := 19#32
  let v0 : BitVec 32 := Scalar.addi arg0 c19_i32
  let c0_i32 : BitVec 32 := 0#32
  let c0_i32_0 : BitVec 32 := 0#32
  ![v0.toNat, c0_i32.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![19], ![false]⟩

@[reducible] def k2_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k2_off1 (k2_t1 : Fin k2_t1_loop.trips) : Fin 2 → Nat :=
  let c0_5 : Index := 0#32
  let c0_i32 : BitVec 32 := 0#32
  let c1_i32 : BitVec 32 := 1#32
  let arg5 : BitVec 32 := Scf.iv c0_i32 c1_i32 k2_t1
  let c256_i32 : BitVec 32 := 256#32
  let v17 : BitVec 32 := Scalar.muli arg5 c256_i32
  let v18 : Index := Scalar.indexCast v17
  ![0, v18.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x8192 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32x8192 : Shape := ⟨3, ![128, 32, 8192]⟩
abbrev S_ : Shape := ⟨0, ![]⟩
abbrev S1 : Shape := ⟨1, ![1]⟩
abbrev S2 : Shape := ⟨1, ![2]⟩
abbrev S1x1x1 : Shape := ⟨3, ![1, 1, 1]⟩
abbrev S128x32 : Shape := ⟨2, ![128, 32]⟩
abbrev S128x32x1 : Shape := ⟨3, ![128, 32, 1]⟩
abbrev S1x1x8192 : Shape := ⟨3, ![1, 1, 8192]⟩

abbrev nBuf : Space → Nat
  | .hbm => 324
  | .vmem => 0
  | .smem => 0
  | _ => 0

abbrev hbmTy0_0 (i : Nat) : BufTy := match i % 128 with
  | 0 => ⟨S128x32x8192, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S128x32x8192, .i64⟩
  | 22 => ⟨S128x32x8192, .i64⟩
  | 23 => ⟨S128x32x8192, .i64⟩
  | 24 => ⟨S_, .i64⟩
  | 25 => ⟨S128x32x8192, .i64⟩
  | 26 => ⟨S128x32x8192, .i64⟩
  | 27 => ⟨S_, .i64⟩
  | 28 => ⟨S128x32x8192, .i64⟩
  | 29 => ⟨S128x32x8192, .i64⟩
  | 30 => ⟨S_, .i64⟩
  | 31 => ⟨S128x32x8192, .i64⟩
  | 32 => ⟨S128x32x8192, .i64⟩
  | 33 => ⟨S128x32x8192, .i64⟩
  | 34 => ⟨S128x32x8192, .i64⟩
  | 35 => ⟨S_, .i64⟩
  | 36 => ⟨S128x32x8192, .i64⟩
  | 37 => ⟨S128x32x8192, .i64⟩
  | 38 => ⟨S128x32x8192, .i32⟩
  | 39 => ⟨S128x32x8192, .i32⟩
  | 40 => ⟨S_, .i32⟩
  | 41 => ⟨S_, .i32⟩
  | 42 => ⟨S_, .i32⟩
  | 43 => ⟨S128x32x8192, .i32⟩
  | 44 => ⟨S128x32x8192, .i32⟩
  | 45 => ⟨S128x32x8192, .i32⟩
  | 46 => ⟨S128x32x8192, .i32⟩
  | 47 => ⟨S128x32x8192, .i32⟩
  | 48 => ⟨S_, .i32⟩
  | 49 => ⟨S128x32x8192, .i32⟩
  | 50 => ⟨S128x32x8192, .i32⟩
  | 51 => ⟨S_, .i32⟩
  | 52 => ⟨S128x32x8192, .i32⟩
  | 53 => ⟨S128x32x8192, .i32⟩
  | 54 => ⟨S128x32x8192, .i32⟩
  | 55 => ⟨S128x32x8192, .i32⟩
  | 56 => ⟨S128x32x8192, .i32⟩
  | 57 => ⟨S_, .i32⟩
  | 58 => ⟨S128x32x8192, .i32⟩
  | 59 => ⟨S128x32x8192, .i32⟩
  | 60 => ⟨S_, .i32⟩
  | 61 => ⟨S128x32x8192, .i32⟩
  | 62 => ⟨S128x32x8192, .i32⟩
  | 63 => ⟨S128x32x8192, .i32⟩
  | 64 => ⟨S128x32x8192, .i32⟩
  | 65 => ⟨S128x32x8192, .i32⟩
  | 66 => ⟨S_, .i32⟩
  | 67 => ⟨S128x32x8192, .i32⟩
  | 68 => ⟨S128x32x8192, .i32⟩
  | 69 => ⟨S_, .i32⟩
  | 70 => ⟨S128x32x8192, .i32⟩
  | 71 => ⟨S128x32x8192, .i32⟩
  | 72 => ⟨S128x32x8192, .i32⟩
  | 73 => ⟨S128x32x8192, .i32⟩
  | 74 => ⟨S128x32x8192, .i32⟩
  | 75 => ⟨S_, .i32⟩
  | 76 => ⟨S128x32x8192, .i32⟩
  | 77 => ⟨S128x32x8192, .i32⟩
  | 78 => ⟨S_, .i32⟩
  | 79 => ⟨S128x32x8192, .i32⟩
  | 80 => ⟨S128x32x8192, .i32⟩
  | 81 => ⟨S128x32x8192, .i32⟩
  | 82 => ⟨S128x32x8192, .i32⟩
  | 83 => ⟨S128x32x8192, .i32⟩
  | 84 => ⟨S128x32x8192, .i32⟩
  | 85 => ⟨S128x32x8192, .i32⟩
  | 86 => ⟨S128x32x8192, .i32⟩
  | 87 => ⟨S_, .i32⟩
  | 88 => ⟨S128x32x8192, .i32⟩
  | 89 => ⟨S128x32x8192, .i32⟩
  | 90 => ⟨S128x32x8192, .i32⟩
  | 91 => ⟨S_, .i32⟩
  | 92 => ⟨S128x32x8192, .i32⟩
  | 93 => ⟨S128x32x8192, .i32⟩
  | 94 => ⟨S_, .i32⟩
  | 95 => ⟨S128x32x8192, .i32⟩
  | 96 => ⟨S128x32x8192, .i32⟩
  | 97 => ⟨S128x32x8192, .i32⟩
  | 98 => ⟨S128x32x8192, .i32⟩
  | 99 => ⟨S128x32x8192, .i32⟩
  | 100 => ⟨S_, .i32⟩
  | 101 => ⟨S128x32x8192, .i32⟩
  | 102 => ⟨S128x32x8192, .i32⟩
  | 103 => ⟨S_, .i32⟩
  | 104 => ⟨S128x32x8192, .i32⟩
  | 105 => ⟨S128x32x8192, .i32⟩
  | 106 => ⟨S128x32x8192, .i32⟩
  | 107 => ⟨S128x32x8192, .i32⟩
  | 108 => ⟨S128x32x8192, .i32⟩
  | 109 => ⟨S_, .i32⟩
  | 110 => ⟨S128x32x8192, .i32⟩
  | 111 => ⟨S128x32x8192, .i32⟩
  | 112 => ⟨S_, .i32⟩
  | 113 => ⟨S128x32x8192, .i32⟩
  | 114 => ⟨S128x32x8192, .i32⟩
  | 115 => ⟨S128x32x8192, .i32⟩
  | 116 => ⟨S128x32x8192, .i32⟩
  | 117 => ⟨S128x32x8192, .i32⟩
  | 118 => ⟨S_, .i32⟩
  | 119 => ⟨S128x32x8192, .i32⟩
  | 120 => ⟨S128x32x8192, .i32⟩
  | 121 => ⟨S_, .i32⟩
  | 122 => ⟨S128x32x8192, .i32⟩
  | 123 => ⟨S128x32x8192, .i32⟩
  | 124 => ⟨S128x32x8192, .i32⟩
  | 125 => ⟨S128x32x8192, .i32⟩
  | 126 => ⟨S128x32x8192, .i32⟩
  | 127 => ⟨S128x32x8192, .i32⟩
  | _ => ⟨S128x32x8192, .f32⟩

abbrev hbmTy0_1 (i : Nat) : BufTy := match i % 128 with
  | 0 => ⟨S128x32x8192, .i32⟩
  | 1 => ⟨S128x32x8192, .i32⟩
  | 2 => ⟨S_, .i32⟩
  | 3 => ⟨S128x32x8192, .i32⟩
  | 4 => ⟨S128x32x8192, .i32⟩
  | 5 => ⟨S128x32x8192, .i32⟩
  | 6 => ⟨S_, .i32⟩
  | 7 => ⟨S128x32x8192, .i32⟩
  | 8 => ⟨S128x32x8192, .i32⟩
  | 9 => ⟨S_, .i32⟩
  | 10 => ⟨S128x32x8192, .i32⟩
  | 11 => ⟨S128x32x8192, .i32⟩
  | 12 => ⟨S128x32x8192, .i32⟩
  | 13 => ⟨S128x32x8192, .i32⟩
  | 14 => ⟨S128x32x8192, .i32⟩
  | 15 => ⟨S_, .i32⟩
  | 16 => ⟨S128x32x8192, .i32⟩
  | 17 => ⟨S128x32x8192, .i32⟩
  | 18 => ⟨S_, .i32⟩
  | 19 => ⟨S128x32x8192, .i32⟩
  | 20 => ⟨S128x32x8192, .i32⟩
  | 21 => ⟨S128x32x8192, .i32⟩
  | 22 => ⟨S128x32x8192, .i32⟩
  | 23 => ⟨S128x32x8192, .i32⟩
  | 24 => ⟨S_, .i32⟩
  | 25 => ⟨S128x32x8192, .i32⟩
  | 26 => ⟨S128x32x8192, .i32⟩
  | 27 => ⟨S_, .i32⟩
  | 28 => ⟨S128x32x8192, .i32⟩
  | 29 => ⟨S128x32x8192, .i32⟩
  | 30 => ⟨S128x32x8192, .i32⟩
  | 31 => ⟨S128x32x8192, .i32⟩
  | 32 => ⟨S128x32x8192, .i32⟩
  | 33 => ⟨S_, .i32⟩
  | 34 => ⟨S128x32x8192, .i32⟩
  | 35 => ⟨S128x32x8192, .i32⟩
  | 36 => ⟨S_, .i32⟩
  | 37 => ⟨S128x32x8192, .i32⟩
  | 38 => ⟨S128x32x8192, .i32⟩
  | 39 => ⟨S128x32x8192, .i32⟩
  | 40 => ⟨S128x32x8192, .i32⟩
  | 41 => ⟨S128x32x8192, .i32⟩
  | 42 => ⟨S128x32x8192, .i32⟩
  | 43 => ⟨S128x32x8192, .i32⟩
  | 44 => ⟨S128x32x8192, .i32⟩
  | 45 => ⟨S_, .i32⟩
  | 46 => ⟨S128x32x8192, .i32⟩
  | 47 => ⟨S128x32x8192, .i32⟩
  | 48 => ⟨S128x32x8192, .i32⟩
  | 49 => ⟨S_, .i32⟩
  | 50 => ⟨S128x32x8192, .i32⟩
  | 51 => ⟨S128x32x8192, .i32⟩
  | 52 => ⟨S_, .i32⟩
  | 53 => ⟨S128x32x8192, .i32⟩
  | 54 => ⟨S128x32x8192, .i32⟩
  | 55 => ⟨S128x32x8192, .i32⟩
  | 56 => ⟨S128x32x8192, .i32⟩
  | 57 => ⟨S128x32x8192, .i32⟩
  | 58 => ⟨S_, .i32⟩
  | 59 => ⟨S128x32x8192, .i32⟩
  | 60 => ⟨S128x32x8192, .i32⟩
  | 61 => ⟨S_, .i32⟩
  | 62 => ⟨S128x32x8192, .i32⟩
  | 63 => ⟨S128x32x8192, .i32⟩
  | 64 => ⟨S128x32x8192, .i32⟩
  | 65 => ⟨S128x32x8192, .i32⟩
  | 66 => ⟨S128x32x8192, .i32⟩
  | 67 => ⟨S_, .i32⟩
  | 68 => ⟨S128x32x8192, .i32⟩
  | 69 => ⟨S128x32x8192, .i32⟩
  | 70 => ⟨S_, .i32⟩
  | 71 => ⟨S128x32x8192, .i32⟩
  | 72 => ⟨S128x32x8192, .i32⟩
  | 73 => ⟨S128x32x8192, .i32⟩
  | 74 => ⟨S128x32x8192, .i32⟩
  | 75 => ⟨S128x32x8192, .i32⟩
  | 76 => ⟨S_, .i32⟩
  | 77 => ⟨S128x32x8192, .i32⟩
  | 78 => ⟨S128x32x8192, .i32⟩
  | 79 => ⟨S_, .i32⟩
  | 80 => ⟨S128x32x8192, .i32⟩
  | 81 => ⟨S128x32x8192, .i32⟩
  | 82 => ⟨S128x32x8192, .i32⟩
  | 83 => ⟨S128x32x8192, .i32⟩
  | 84 => ⟨S128x32x8192, .i32⟩
  | 85 => ⟨S128x32x8192, .i32⟩
  | 86 => ⟨S128x32x8192, .i32⟩
  | 87 => ⟨S128x32x8192, .i32⟩
  | 88 => ⟨S_, .i32⟩
  | 89 => ⟨S128x32x8192, .i32⟩
  | 90 => ⟨S128x32x8192, .i32⟩
  | 91 => ⟨S128x32x8192, .i32⟩
  | 92 => ⟨S_, .i32⟩
  | 93 => ⟨S128x32x8192, .i32⟩
  | 94 => ⟨S128x32x8192, .i32⟩
  | 95 => ⟨S_, .i32⟩
  | 96 => ⟨S128x32x8192, .i32⟩
  | 97 => ⟨S128x32x8192, .i32⟩
  | 98 => ⟨S128x32x8192, .i32⟩
  | 99 => ⟨S128x32x8192, .i32⟩
  | 100 => ⟨S128x32x8192, .i32⟩
  | 101 => ⟨S_, .i32⟩
  | 102 => ⟨S128x32x8192, .i32⟩
  | 103 => ⟨S128x32x8192, .i32⟩
  | 104 => ⟨S_, .i32⟩
  | 105 => ⟨S128x32x8192, .i32⟩
  | 106 => ⟨S128x32x8192, .i32⟩
  | 107 => ⟨S128x32x8192, .i32⟩
  | 108 => ⟨S128x32x8192, .i32⟩
  | 109 => ⟨S128x32x8192, .i32⟩
  | 110 => ⟨S_, .i32⟩
  | 111 => ⟨S128x32x8192, .i32⟩
  | 112 => ⟨S128x32x8192, .i32⟩
  | 113 => ⟨S_, .i32⟩
  | 114 => ⟨S128x32x8192, .i32⟩
  | 115 => ⟨S128x32x8192, .i32⟩
  | 116 => ⟨S128x32x8192, .i32⟩
  | 117 => ⟨S128x32x8192, .i32⟩
  | 118 => ⟨S128x32x8192, .i32⟩
  | 119 => ⟨S_, .i32⟩
  | 120 => ⟨S128x32x8192, .i32⟩
  | 121 => ⟨S128x32x8192, .i32⟩
  | 122 => ⟨S_, .i32⟩
  | 123 => ⟨S128x32x8192, .i32⟩
  | 124 => ⟨S128x32x8192, .i32⟩
  | 125 => ⟨S128x32x8192, .i32⟩
  | 126 => ⟨S128x32x8192, .i32⟩
  | 127 => ⟨S128x32x8192, .i32⟩
  | _ => ⟨S128x32x8192, .f32⟩

abbrev hbmTy0_2 (i : Nat) : BufTy := match i % 128 with
  | 0 => ⟨S128x32x8192, .i32⟩
  | 1 => ⟨S128x32x8192, .i32⟩
  | 2 => ⟨S128x32x8192, .i32⟩
  | 3 => ⟨S_, .i32⟩
  | 4 => ⟨S128x32x8192, .i32⟩
  | 5 => ⟨S128x32x8192, .i32⟩
  | 6 => ⟨S128x32x8192, .i32⟩
  | 7 => ⟨S_, .i32⟩
  | 8 => ⟨S128x32x8192, .i32⟩
  | 9 => ⟨S128x32x8192, .i32⟩
  | 10 => ⟨S_, .i32⟩
  | 11 => ⟨S128x32x8192, .i32⟩
  | 12 => ⟨S128x32x8192, .i32⟩
  | 13 => ⟨S128x32x8192, .f32⟩
  | 14 => ⟨S_, .f32⟩
  | 15 => ⟨S128x32x8192, .f32⟩
  | 16 => ⟨S128x32x8192, .f32⟩
  | 17 => ⟨S1x1x1, .f32⟩
  | 18 => ⟨S128x32x8192, .f32⟩
  | 19 => ⟨S128x32x8192, .f32⟩
  | 20 => ⟨S128x32x8192, .f32⟩
  | 21 => ⟨S128x32x8192, .f32⟩
  | 22 => ⟨S128x32x8192, .f32⟩
  | 23 => ⟨S128x32x8192, .f32⟩
  | 24 => ⟨S_, .f32⟩
  | 25 => ⟨S128x32x8192, .f32⟩
  | 26 => ⟨S128x32x8192, .f32⟩
  | 27 => ⟨S_, .f32⟩
  | 28 => ⟨S128x32x8192, .f32⟩
  | 29 => ⟨S128x32x8192, .f32⟩
  | 30 => ⟨S_, .f32⟩
  | 31 => ⟨S128x32x8192, .f32⟩
  | 32 => ⟨S128x32x8192, .f32⟩
  | 33 => ⟨S128x32x8192, .f32⟩
  | 34 => ⟨S128x32x8192, .f32⟩
  | 35 => ⟨S128x32x8192, .f32⟩
  | 36 => ⟨S128x32x8192, .f32⟩
  | 37 => ⟨S128x32x8192, .f32⟩
  | 38 => ⟨S_, .f32⟩
  | 39 => ⟨S128x32x8192, .f32⟩
  | 40 => ⟨S128x32x8192, .f32⟩
  | 41 => ⟨S_, .f32⟩
  | 42 => ⟨S128x32, .f32⟩
  | 43 => ⟨S_, .f32⟩
  | 44 => ⟨S128x32, .f32⟩
  | 45 => ⟨S128x32, .f32⟩
  | 46 => ⟨S128x32x1, .f32⟩
  | 47 => ⟨S128x32x8192, .f32⟩
  | 48 => ⟨S128x32x8192, .f32⟩
  | 49 => ⟨S128x32x8192, .f32⟩
  | 50 => ⟨S_, .f32⟩
  | 51 => ⟨S128x32, .f32⟩
  | 52 => ⟨S128x32x1, .f32⟩
  | 53 => ⟨S128x32x8192, .f32⟩
  | 54 => ⟨S128x32x8192, .f32⟩
  | 55 => ⟨S128x32x8192, .i32⟩
  | 56 => ⟨S_, .f32⟩
  | 57 => ⟨S_, .i32⟩
  | 58 => ⟨S128x32, .f32⟩
  | 59 => ⟨S128x32, .i32⟩
  | 60 => ⟨S128x32x1, .i32⟩
  | 61 => ⟨S1x1x8192, .i32⟩
  | 62 => ⟨S128x32x8192, .i32⟩
  | 63 => ⟨S128x32x8192, .i32⟩
  | 64 => ⟨S128x32x8192, .i1⟩
  | 65 => ⟨S128x32x8192, .f32⟩
  | 66 => ⟨S128x32x8192, .f32⟩
  | 67 => ⟨S128x32x8192, .f32⟩
  | _ => ⟨S128x32x8192, .f32⟩

abbrev hbmTy (i : Nat) : BufTy := match i / 128 with
  | 0 => hbmTy0_0 i
  | 1 => hbmTy0_1 i
  | 2 => hbmTy0_2 i
  | _ => ⟨S128x32x8192, .f32⟩

abbrev bufTy : (tb : Table) → Fin (tcTables nBuf tb) → BufTy
  | .hbm, ⟨i, _⟩ => hbmTy i
  | _, _ => ⟨S128x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_cst_3 : Ref sig .tc := ⟨.hbm, 280, rfl⟩
abbrev main_v8 : Ref sig .tc := ⟨.hbm, 281, rfl⟩
abbrev main_v9 : Ref sig .tc := ⟨.hbm, 282, rfl⟩
abbrev main_cst_4 : Ref sig .tc := ⟨.hbm, 283, rfl⟩
abbrev main_v10 : Ref sig .tc := ⟨.hbm, 284, rfl⟩
abbrev main_v11 : Ref sig .tc := ⟨.hbm, 285, rfl⟩
abbrev main_cst_5 : Ref sig .tc := ⟨.hbm, 286, rfl⟩
abbrev main_v12 : Ref sig .tc := ⟨.hbm, 287, rfl⟩
abbrev main_v13 : Ref sig .tc := ⟨.hbm, 288, rfl⟩
abbrev main_v14 : Ref sig .tc := ⟨.hbm, 289, rfl⟩
abbrev main_v15 : Ref sig .tc := ⟨.hbm, 290, rfl⟩
abbrev main_v16 : Ref sig .tc := ⟨.hbm, 291, rfl⟩
abbrev main_v17 : Ref sig .tc := ⟨.hbm, 292, rfl⟩
abbrev main_v18 : Ref sig .tc := ⟨.hbm, 293, rfl⟩
abbrev main_cst_6 : Ref sig .tc := ⟨.hbm, 294, rfl⟩
abbrev main_v19 : Ref sig .tc := ⟨.hbm, 295, rfl⟩
abbrev main_v20 : Ref sig .tc := ⟨.hbm, 296, rfl⟩
abbrev main_cst_7 : Ref sig .tc := ⟨.hbm, 297, rfl⟩
abbrev main_v21 : Ref sig .tc := ⟨.hbm, 298, rfl⟩
abbrev main_cst_8 : Ref sig .tc := ⟨.hbm, 299, rfl⟩
abbrev main_v22 : Ref sig .tc := ⟨.hbm, 300, rfl⟩
abbrev main_v23 : Ref sig .tc := ⟨.hbm, 301, rfl⟩
abbrev main_v24 : Ref sig .tc := ⟨.hbm, 302, rfl⟩
abbrev main_v25 : Ref sig .tc := ⟨.hbm, 303, rfl⟩
abbrev main_v26 : Ref sig .tc := ⟨.hbm, 304, rfl⟩
abbrev main_v27 : Ref sig .tc := ⟨.hbm, 305, rfl⟩
abbrev main_cst_9 : Ref sig .tc := ⟨.hbm, 306, rfl⟩
abbrev main_v28 : Ref sig .tc := ⟨.hbm, 307, rfl⟩
abbrev main_v29 : Ref sig .tc := ⟨.hbm, 308, rfl⟩
abbrev main_v30 : Ref sig .tc := ⟨.hbm, 309, rfl⟩
abbrev main_v31 : Ref sig .tc := ⟨.hbm, 310, rfl⟩
abbrev main_call1_v0 : Ref sig .tc := ⟨.hbm, 311, rfl⟩
abbrev main_call1_cst : Ref sig .tc := ⟨.hbm, 312, rfl⟩
abbrev main_call1_c : Ref sig .tc := ⟨.hbm, 313, rfl⟩
abbrev main_call1_v1_0 : Ref sig .tc := ⟨.hbm, 314, rfl⟩
abbrev main_v32 : Ref sig .tc := ⟨.hbm, 315, rfl⟩
abbrev main_call2_v0 : Ref sig .tc := ⟨.hbm, 316, rfl⟩
abbrev main_call2_v1 : Ref sig .tc := ⟨.hbm, 317, rfl⟩
abbrev main_call2_v2 : Ref sig .tc := ⟨.hbm, 318, rfl⟩
abbrev main_call2_v3 : Ref sig .tc := ⟨.hbm, 319, rfl⟩
abbrev main_call2_v4 : Ref sig .tc := ⟨.hbm, 320, rfl⟩
abbrev main_v33 : Ref sig .tc := ⟨.hbm, 321, rfl⟩
abbrev main_v34 : Ref sig .tc := ⟨.hbm, 322, rfl⟩
abbrev main_v35 : Ref sig .tc := ⟨.hbm, 323, rfl⟩

abbrev nD : Nat := 1
abbrev τ : Topo := Topo.v7x

variable {F : FTy → Type} [FloatOps F]
-- ==== Proof.Hash.lean ====
module

public import proofs.«01_k».proof.Proof.Gen.KernelIdeal.Skeleton

@[expose] public section

/-! # The counter hash, one word at a time

  The random words are a hash of the element's position: twenty rounds on a pair of words, each an
  addition, a rotation and an exclusive or, with a pair of key words added after every four. The
  state is a pair `(x0, x1)`; the unit `u` is the processor that shifts, which matters to no
  rotation here since every amount is below the width. -/

noncomputable section

namespace Cert.Hash

open Idealize.ShloMosaic

/-- A state of the hash. -/
abbrev St := BitVec 32 × BitVec 32

/-- The second half of a round: the exclusive or of the sum with the rotation of `x1` by `r`, where `r'` is `32 - r`. -/
def twist (u : ArithUnit) (r r' a b : BitVec 32) : BitVec 32 :=
  IntOp.xori a (IntOp.ori (IntOp.shli u b r) (IntOp.shrui u b r'))

/-- One round. -/
def mix (u : ArithUnit) (r r' : BitVec 32) (p : St) : St :=
  (IntOp.addi p.1 p.2, twist u r r' (IntOp.addi p.1 p.2) p.2)

/-- The key words `a` and `b` added to a state. -/
def inj (a b : BitVec 32) (p : St) : St := (IntOp.addi p.1 a, IntOp.addi p.2 b)

/-- The first round, from the state `(0, x)`. -/
def first (u : ArithUnit) (x : BitVec 32) : St := (x, twist u 13#32 19#32 x x)

/-- The state six rounds in: what the first part of the kernel's loop leaves. -/
def part1 (u : ArithUnit) (x : BitVec 32) : St :=
  mix u 29#32 3#32 <| mix u 17#32 15#32 <| inj 42#32 466689009#32 <|
  mix u 6#32 26#32 <| mix u 26#32 6#32 <| mix u 15#32 17#32 <| first u x

/-- Rounds seven to twelve. -/
def part2 (u : ArithUnit) (p : St) : St :=
  mix u 6#32 26#32 <| mix u 26#32 6#32 <| mix u 15#32 17#32 <| mix u 13#32 19#32 <|
  inj 466689008#32 2#32 <| mix u 24#32 8#32 <| mix u 16#32 16#32 p

/-- Rounds thirteen to seventeen. -/
def part3 (u : ArithUnit) (p : St) : St :=
  mix u 13#32 19#32 <| inj 42#32 466689012#32 <|
  mix u 24#32 8#32 <| mix u 16#32 16#32 <| mix u 29#32 3#32 <| mix u 17#32 15#32 <|
  inj 0#32 45#32 p

/-- Rounds eighteen to twenty, the last key words, and the two halves joined. -/
def part4 (u : ArithUnit) (p : St) : BitVec 32 :=
  let q := inj 466689008#32 5#32 <| mix u 6#32 26#32 <| mix u 26#32 6#32 <| mix u 15#32 17#32 p
  IntOp.xori q.1 q.2

/-- The hash of a word. -/
def hash (u : ArithUnit) (x : BitVec 32) : BitVec 32 := part4 u (part3 u (part2 u (part1 u x)))

/-- A rotation's amounts are in range, so the unit that shifts does not matter. -/
theorem twist_unit (u : ArithUnit) (r r' a b : BitVec 32) (h : r.toNat < 32) (h' : r'.toNat < 32) :
    twist u r r' a b = twist .vector r r' a b := by
  simp only [twist, IntOp.shli, IntOp.shrui, if_pos h, if_pos h']

/-- So every unit computes the same hash. -/
theorem hash_unit (u : ArithUnit) (x : BitVec 32) : hash u x = hash .vector x := by
  simp only [hash, part4, part3, part2, part1, first, mix]
  simp (decide := true) only [twist_unit u]

open Cert.KernelIdeal Cert.KernelIdeal.Gen

/-! ## The kernel's values at an element -/

theorem k0_part1_at (x : IVec S16 32) (i : S16.Idx) : (k0_pay10 x i, k0_pay11 x i) = part1 .vector (x i) := rfl
theorem k0_part2_at (a b : IVec S16 32) (i : S16.Idx) : (k0_pay22 a b i, k0_pay23 a b i) = part2 .vector (a i, b i) := rfl
theorem k0_part3_at (a b : IVec S16 32) (i : S16.Idx) : (k0_pay33 a b i, k0_pay34 a b i) = part3 .vector (a i, b i) := rfl

/-- What a SparseCore trip stores at column `j 1` of its sixteen: the hash of its lane's word. -/
theorem k0_store_at (x : IVec S16 32) (j : S1x16.Idx) :
    k0_pay74 (k0_pay34 (k0_pay22 (k0_pay10 x) (k0_pay11 x)) (k0_pay23 (k0_pay10 x) (k0_pay11 x)))
      (k0_pay35 (k0_pay22 (k0_pay10 x) (k0_pay11 x)) (k0_pay23 (k0_pay10 x) (k0_pay11 x))) k0_pay36 j
      = hash .vector (x (Shape.reshapeEquiv shapeCasts_S16_S1x16 j)) := by
  unfold hash
  rw [← k0_part1_at, ← k0_part2_at, ← k0_part3_at]
  rfl

theorem k0_part4_at (x : IVec S16 32) (i : S16.Idx) : (k0_pay46 x i, k0_pay47 x i) = part1 .vector (x i) := rfl
theorem k0_part5_at (a b : IVec S16 32) (i : S16.Idx) : (k0_pay58 a b i, k0_pay59 a b i) = part2 .vector (a i, b i) := rfl
theorem k0_part6_at (a b : IVec S16 32) (i : S16.Idx) : (k0_pay69 a b i, k0_pay70 a b i) = part3 .vector (a i, b i) := rfl

/-- The second loop's trip computes the same. -/
theorem k0_store'_at (x : IVec S16 32) (j : S1x16.Idx) :
    k0_pay77 (k0_pay70 (k0_pay58 (k0_pay46 x) (k0_pay47 x)) (k0_pay59 (k0_pay46 x) (k0_pay47 x)))
      (k0_pay71 (k0_pay58 (k0_pay46 x) (k0_pay47 x)) (k0_pay59 (k0_pay46 x) (k0_pay47 x))) k0_pay72 j
      = hash .vector (x (Shape.reshapeEquiv shapeCasts_S16_S1x16 j)) := by
  unfold hash
  rw [← k0_part4_at, ← k0_part5_at, ← k0_part6_at]
  rfl

/-! The TensorCore's loop cuts the rounds elsewhere: after five, eleven and sixteen. -/

/-- The state five rounds in. -/
def cut1 (u : ArithUnit) (x : BitVec 32) : St :=
  mix u 17#32 15#32 <| inj 42#32 466689009#32 <|
  mix u 6#32 26#32 <| mix u 26#32 6#32 <| mix u 15#32 17#32 <| first u x

/-- Rounds six to eleven. -/
def cut2 (u : ArithUnit) (p : St) : St :=
  mix u 26#32 6#32 <| mix u 15#32 17#32 <| mix u 13#32 19#32 <|
  inj 466689008#32 2#32 <| mix u 24#32 8#32 <| mix u 16#32 16#32 <| mix u 29#32 3#32 p

/-- Rounds twelve to sixteen, and the key words after them. -/
def cut3 (u : ArithUnit) (p : St) : St :=
  inj 42#32 466689012#32 <|
  mix u 24#32 8#32 <| mix u 16#32 16#32 <| mix u 29#32 3#32 <| mix u 17#32 15#32 <|
  inj 0#32 45#32 <| mix u 6#32 26#32 p

theorem hash_cut (u : ArithUnit) (x : BitVec 32) :
    hash u x = part4 u (mix u 13#32 19#32 (cut3 u (cut2 u (cut1 u x)))) := rfl

variable {F : FTy → Type} [FloatOps F]

/-- The logarithm of a random word's exponential variate: with `u` the word's uniform variate, `log (0 - log u)`. -/
def expLog (b : BitVec 32) : F .f32 :=
  let one : F .f32 := Scalar.ofBits .f32 0x3F800000#32
  let tiny : F .f32 := Scalar.ofBits .f32 0x2EDBE6FF#32
  let zero : F .f32 := Scalar.ofBits .f32 0x00000000#32
  let m : F .f32 := FloatOps.ofBits .f32 (IntOp.ori (IntOp.shrui .vector b 9#32) 1065353216#32)
  FloatOps.log (FloatOps.subf zero (FloatOps.log (FloatOps.maximumf tiny (FloatOps.addf (FloatOps.mulf (FloatOps.subf m one) one) tiny))))

/-- A logit with its Gumbel noise. -/
def noisy (x : F .f32) (b : BitVec 32) : F .f32 :=
  FloatOps.addf x (FloatOps.subf (Scalar.ofBits .f32 0x00000000#32) (expLog b))

theorem k1_cut1_at (v : IVec S64x256 32) (t : Fin k1_t1_loop.trips) (i : S64x256.Idx) :
    (k1_pay12 v 0#32 1#32 t i, k1_pay13 v 0#32 1#32 t i) = cut1 .vector (k1_pay4 v 0#32 1#32 t i) := rfl

theorem k1_cut2_at (a b : IVec S64x256 32) (i : S64x256.Idx) :
    (k1_pay25 b (addi a b) (shli b (broadcast S64x256 29#32)) 3#32 i,
      k1_pay26 b (addi a b) (shli b (broadcast S64x256 29#32)) 3#32 i) = cut2 .vector (a i, b i) := rfl

theorem k1_cut3_at (a b : IVec S64x256 32) (i : S64x256.Idx) :
    (IntOp.addi (k1_pay36 b (addi a b) (shli b (broadcast S64x256 6#32)) 26#32 i) 42#32,
      k1_pay37 b (addi a b) (shli b (broadcast S64x256 6#32)) 26#32 i) = cut3 .vector (a i, b i) := rfl

theorem k1_last_at (a b : IVec S64x256 32) (i : S64x256.Idx) :
    k1_pay40 (F := F) (k1_pay38 b (addi a b) (shli b (broadcast S64x256 6#32)) 26#32)
      (k1_pay39 b (addi a b) (shli b (broadcast S64x256 6#32)) 26#32) i
      = expLog (part4 .vector (mix .vector 13#32 19#32
          (IntOp.addi (k1_pay36 b (addi a b) (shli b (broadcast S64x256 6#32)) 26#32 i) 42#32,
           k1_pay37 b (addi a b) (shli b (broadcast S64x256 6#32)) 26#32 i))) := rfl

/-- The TensorCore's own noise at an element is that of the hash of the element's word. -/
theorem k1_noise_at (v : IVec S64x256 32) (t : Fin k1_t1_loop.trips) (i : S64x256.Idx)
    (a b c : IVec S64x256 32) (ha : a = k1_pay13 v 0#32 1#32 t) (hb : b = k1_pay14 v 0#32 1#32 t) (hc : c = k1_pay15 v 0#32 1#32 t) :
    k1_pay40 (F := F) (k1_pay38 (k1_pay26 a b c 3#32) (k1_pay27 a b c 3#32) (k1_pay28 a b c 3#32) 26#32)
      (k1_pay39 (k1_pay26 a b c 3#32) (k1_pay27 a b c 3#32) (k1_pay28 a b c 3#32) 26#32) i
      = expLog (hash .vector (k1_pay4 v 0#32 1#32 t i)) := by
  subst ha hb hc
  rw [hash_cut, ← k1_cut1_at, ← k1_cut2_at, ← k1_cut3_at, ← k1_last_at]
  rfl

theorem k2_value_at (w : Vec F S64x256 .i32) (x : Vec F S64x256 .f32) (i : S64x256.Idx) :
    k2_pay1 w x i = noisy (F := F) (shapeCast S64x256 x shapeCasts_S64x256_S64x256 i) (shapeCast S64x256 w shapeCasts_S64x256_S64x256 i) := rfl

theorem k1_value_at (n : FVec F S64x256 .f32) (x : Vec F S64x256 .f32) (i : S64x256.Idx) :
    k1_pay2 n (Scalar.ofBits .f32 0x00000000#32) x i
      = FloatOps.addf (shapeCast S64x256 x shapeCasts_S64x256_S64x256 i) (FloatOps.subf (Scalar.ofBits .f32 0x00000000#32) (n i)) := rfl

end Cert.Hash
-- ==== Proof.Setup.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Hash

@[expose] public section

/-! # The program and its resources

  The program as the launch theorem of the SparseCores sees it, the ghost state it is run with —
  the handshakes of the SparseCore call, the two TensorCore calls' rounds, and the transfers'
  counters — and what the handshakes carry. -/

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The launch memory and the buffers -/

variable (m : (ℓ : Loc nD τ sig) → Buf (Elt F) ℓ) (ρ : Dev nD → PrngReg)

/-- The random words' buffer. -/
abbrev bLoc (d : Dev nD) : Loc nD τ sig := (SparseCore.T d).loc main_v1

/-- The word at an element of the random words: the hash of its position, offset by the second key word. -/
def bitsAt (j : S1216x8192.Idx) : BitVec 32 := Hash.hash .vector (BitVec.ofNat 32 ((j 0).val * 8192 + 42 + (j 1).val))

/-- The random words, all of them. -/
def bits (d : Dev nD) : Buf (Elt F) (bLoc d) := bitsAt

/-- The first row of the tile `s` of SparseCore `c`. -/
abbrev row0 (c s : ℕ) : ℕ := (2 * s + c) * 38

/-- The rows of one tile: thirty-eight of them. -/
def tileRows (c s : ℕ) : Finset S1216x8192.Idx := Finset.univ.filter fun j => row0 c s ≤ (j 0).val ∧ (j 0).val < row0 c s + 38
/-- The rows of one SparseCore. -/
def coreRows (c : ℕ) : Finset S1216x8192.Idx := Finset.univ.filter fun j => (j 0).val / 38 % 2 = c
/-- One row. -/
def oneRow (r : ℕ) : Finset S1216x8192.Idx := Finset.univ.filter fun j => (j 0).val = r

variable [FloatOps F]

/-- The call takes the random words' buffer, a SparseCore its rows of it and a tile its own; they come back filled. -/
def P : (K (F := F)).Pay (nD := nD) (Val := Elt F) (Name := ℕ) (U := UU) where
  st := fun q d c => match q with | 0 => (bLoc d ↦[coreRows c.val]{fullShare} m (bLoc d) : sProp 𝕄)
  dn := fun q d c => match q with | 0 => (bLoc d ↦[coreRows c.val]{fullShare} bits d : sProp 𝕄)
  go := fun q d c i => match q with | 0 => (bLoc d ↦[tileRows c.val i.val]{fullShare} m (bLoc d) : sProp 𝕄)
  td := fun q d c i => match q with | 0 => (bLoc d ↦[tileRows c.val i.val]{fullShare} bits d : sProp 𝕄)
  x := fun _ _ => iprop(emp)

instance P_storable : (P (F := F) m).IsStorable where
  st q d c := match q with | 0 => (inferInstance : BI.Storable (upEmb : UEmb _ 𝕄) (bLoc d ↦[coreRows c.val]{fullShare} m (bLoc d) : sProp 𝕄))
  dn q d c := match q with | 0 => (inferInstance : BI.Storable (upEmb : UEmb _ 𝕄) (bLoc d ↦[coreRows c.val]{fullShare} bits d : sProp 𝕄))
  go q d c i := match q with | 0 => (inferInstance : BI.Storable (upEmb : UEmb _ 𝕄) (bLoc d ↦[tileRows c.val i.val]{fullShare} m (bLoc d) : sProp 𝕄))
  td q d c i := match q with | 0 => (inferInstance : BI.Storable (upEmb : UEmb _ 𝕄) (bLoc d ↦[tileRows c.val i.val]{fullShare} bits d : sProp 𝕄))

end Cert.Proof.Run
-- ==== Proof.Tile.lean ====
module

public import proofs.«01_k».proof.Proof.Setup

@[expose] public section

/-! # One tile's task

  A tile fills its thirty-eight rows of the random words two at a time: the first of a pair in row 0
  of its scratch, the second in row 1, each sixteen words a trip, and copies both out on one
  semaphore before it waits for either. The body is run once, at a symbolic SparseCore and tile. -/

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Hash

variable {F : FTy → Type}

local notation "𝕄" => MT nD τ sig (HIx 1) (Elt F) ℕ UU ℕ

local notation "oV" => (Memref.whole Cert.KernelIdeal.main_v1_scv : Memref Cert.KernelIdeal.sig Kind.scVector Space.hbm Cert.KernelIdeal.S1216x8192 EltTy.i32)
local notation "sV" => (Memref.whole Cert.KernelIdeal.cc0_scratch0 : Memref Cert.KernelIdeal.sig Kind.scVector Space.vmem Cert.KernelIdeal.S2x8192 EltTy.i32)

variable (m : (ℓ : Loc nD τ sig) → Buf (Elt F) ℓ)
variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's thread and its scratch. -/
abbrev thr (d : Dev nD) (L : grid0.Coords) : Thread nD τ := V d (cV L) (jV L)
abbrev sLoc (d : Dev nD) (L : grid0.Coords) : Loc nD τ sig := (thr d L).loc cc0_scratch0

/-- One row of the scratch. -/
def slot (r : ℕ) : Finset S2x8192.Idx := Finset.univ.filter fun j => (j 0).val = r

/-- Before trip `k` of a row's loop: the lanes hold the sixteen next words to hash, `w` being the row's first, and the
    row's first `16 * k` elements are their words' hashes. -/
def RowInv (r w k : ℕ) (acc : IVec S16 32) : sProp 𝕄 :=
  iprop(⌜∀ l : S16.Idx, acc l = BitVec.ofNat 32 (w + 16 * k + (l 0).val)⌝
    ∗ ∃ f : Buf (Elt F) (sLoc d L), ⌜∀ j : S2x8192.Idx, (j 0).val = r → (j 1).val < 16 * k →
        f j = (Hash.hash .vector (BitVec.ofNat 32 (w + (j 1).val)) : BitVec 32)⌝
      ∗ (sLoc d L ↦[slot r]{fullShare} f))

abbrev chunk (off : Fin 2 → ℕ) (inb : ∀ a, off a + S1x16.size a ≤ S2x8192.size a) : Rect S2x8192 := Rect.unit (s := S2x8192) off S1x16.size inb

theorem chunk_idx {off : Fin 2 → ℕ} {inb : ∀ a, off a + S1x16.size a ≤ S2x8192.size a} (x : S1x16.Idx) (a : Fin 2) :
    ((chunk off inb).emb x a).val = off a + (x a).val := by
  simp

theorem chunk_sub {r k : ℕ} {off : Fin 2 → ℕ} {inb : ∀ a, off a + S1x16.size a ≤ S2x8192.size a} (hoff : off = ![r, 16 * k]) :
    ((sV).access (chunk off inb)).setOn Finset.univ ⊆ slot r := by
  intro j hj
  obtain ⟨x, -, rfl⟩ := Finset.mem_map.mp hj
  have h0 : (x 0).val < 1 := (x 0).isLt
  refine Finset.mem_filter.mpr ⟨Finset.mem_univ _, ?_⟩
  show ((chunk off inb).emb x 0).val = r
  rw [chunk_idx, hoff]
  show r + (x 0).val = r
  omega

/-- A store of sixteen hashes takes the loop's invariant on by one trip. -/
theorem stored {r w k : ℕ} {off : Fin 2 → ℕ} {inb : ∀ a, off a + S1x16.size a ≤ S2x8192.size a} (hoff : off = ![r, 16 * k])
    (acc : IVec S16 32) (hacc : ∀ l : S16.Idx, acc l = BitVec.ofNat 32 (w + 16 * k + (l 0).val))
    (x : IVec S1x16 32) (hx : ∀ j, x j = Hash.hash .vector (acc (Shape.reshapeEquiv shapeCasts_S16_S1x16 j)))
    (f : Buf (Elt F) (sLoc d L)) (hf : ∀ j : S2x8192.Idx, (j 0).val = r → (j 1).val < 16 * k →
        f j = (Hash.hash .vector (BitVec.ofNat 32 (w + (j 1).val)) : BitVec 32))
    (j : S2x8192.Idx) (h0 : (j 0).val = r) (h1 : (j 1).val < 16 * (k + 1)) :
    ((sV).access (chunk off inb)).write (Elt F) f x Finset.univ j = (Hash.hash .vector (BitVec.ofNat 32 (w + (j 1).val)) : BitVec 32) := by
  by_cases hj : (j 1).val < 16 * k
  · rw [View.write_of_not_mem, hf j h0 hj]
    intro hm
    obtain ⟨y, -, rfl⟩ := Finset.mem_map.mp hm
    have : ((chunk off inb).emb y 1).val < 16 * k := hj
    rw [chunk_idx, hoff] at this
    have : 16 * k + (y 1).val < 16 * k := this
    omega
  · let y : S1x16.Idx := fun | 0 => ⟨0, by decide⟩ | 1 => ⟨(j 1).val - 16 * k, by show _ < 16; omega⟩
    have hy : ((sV).access (chunk off inb)).emb y = j := by
      funext a
      refine Fin.ext ?_
      show ((chunk off inb).emb y a).val = (j a).val
      rw [chunk_idx, hoff]
      match a with
      | 0 => show r + 0 = _; rw [h0]; rfl
      | 1 => show 16 * k + ((j 1).val - 16 * k) = (j 1).val; omega
    rw [← hy, View.write_emb_of_mem _ _ (Finset.mem_univ y)]
    show x y = _
    rw [hx, hacc, hy]
    have hl : ((Shape.reshapeEquiv shapeCasts_S16_S1x16 y : S16.Idx) 0).val = (j 1).val - 16 * k := by
      have h := Shape.rowMajor_reshapeEquiv shapeCasts_S16_S1x16 y
      rw [Shape.rowMajor_val_one, Shape.rowMajor_val_two] at h
      rw [h]; show 0 * 16 + ((j 1).val - 16 * k) = _; omega
    have e : w + 16 * k + ((Shape.reshapeEquiv shapeCasts_S16_S1x16 y : S16.Idx) 0).val = w + (j 1).val := by omega
    exact congrArg (fun n => Hash.hash .vector (BitVec.ofNat 32 n)) e

/-- One trip of a row's loop: a load nobody reads and the store. -/
theorem trip {r w k : ℕ} {off : Fin 2 → ℕ} {inb : ∀ a, off a + S1x16.size a ≤ S2x8192.size a} (hoff : off = ![r, 16 * k])
    {hl : (sV).view.LoadsAt (chunk off inb).toLoadRect} {hs : ((sV).access (chunk off inb)).Stores Finset.univ}
    {hm : (Finset.univ : Finset (chunk off inb).shape.Idx) = Finset.univ ∨ ∀ a, (chunk off inb).stride a = 1}
    (acc acc' : IVec S16 32) (x : IVec S1x16 32) (hx : ∀ j, x j = Hash.hash .vector (acc (Shape.reshapeEquiv shapeCasts_S16_S1x16 j)))
    (hacc' : ∀ l, acc' l = acc l + 16#32) :
    RowInv (F := F) d L r w k acc
      ⊢ wp frame (wpE (defs₀ (F := F)) 𝒱₀ (thr d L) none) Set.univ
          (.op (.load (sV) (chunk off inb).toLoadRect hl) fun _ =>
            .op (.store (sV) (chunk off inb) x Finset.univ hs hm) fun _ => .ret acc')
          (RowInv (F := F) d L r w (k + 1)) := by
  unfold RowInv
  iintro ⟨%hacc, %f, %hf, Hs⟩
  iapply (wp_load_rect 𝒱₀ (thr d L) none Set.univ (m := sV) (r := chunk off inb) (S := slot r) (chunk_sub hoff)) $$ Hs
  iintro Hs
  iapply (wp_store 𝒱₀ (thr d L) none Set.univ (m := sV) (r := chunk off inb) (S := slot r) (chunk_sub hoff)) $$ Hs
  iintro Hs
  rw [wp_ret]
  imodintro
  isplitr
  · ipureintro; intro l
    rw [hacc', hacc]
    apply BitVec.eq_of_toNat_eq; simp [BitVec.toNat_add, BitVec.toNat_ofNat]; omega
  iexists _
  isplitr
  swap; · iexact Hs
  ipureintro
  exact stored (F := F) d L hoff acc hacc x hx f hf

/-- A trip of the loop that fills the scratch's row 0, -/
theorem t2_step (arg4 : DmaSems sig S_) (v2 : BitVec 32) (v3 : IVec S16 32) (t1 : Fin k0_t1_loop.trips) (w : ℕ) (k : Fin k0_t2_loop.trips) (acc : IVec S16 32) :
    RowInv (F := F) d L 0 w k.val acc
      ⊢ wp frame (wpE (defs₀ (F := F)) 𝒱₀ (thr d L) none) Set.univ
          (k0_t2_body L oV (Memref.isWhole_whole _) sV (Memref.isWhole_whole _) arg4 v2 v3 0#32 1#32 t1 k acc)
          (RowInv (F := F) d L 0 w (k.val + 1)) := by
  unfold k0_t2_body
  simp only [k0_part1_eq_skeleton, k0_part2_eq_skeleton, k0_part3_eq_skeleton]
  unfold k0_part1_skel k0_part2_skel k0_part3_skel
  exact trip (F := F) d L (k0_off1_eq k) acc (k0_pay75 acc) _ (k0_store_at acc) (fun _ => rfl)

/-- and of the loop that fills its row 1. -/
theorem t3_step (arg4 : DmaSems sig S_) (v2 : BitVec 32) (v3 : IVec S16 32) (t1 : Fin k0_t1_loop.trips) (w : ℕ) (k : Fin k0_t3_loop.trips) (acc : IVec S16 32) :
    RowInv (F := F) d L 1 w k.val acc
      ⊢ wp frame (wpE (defs₀ (F := F)) 𝒱₀ (thr d L) none) Set.univ
          (k0_t3_body L oV (Memref.isWhole_whole _) sV (Memref.isWhole_whole _) arg4 v2 v3 0#32 1#32 t1 k acc)
          (RowInv (F := F) d L 1 w (k.val + 1)) := by
  unfold k0_t3_body
  simp only [k0_part4_eq_skeleton, k0_part5_eq_skeleton, k0_part6_eq_skeleton]
  unfold k0_part4_skel k0_part5_skel k0_part6_skel
  exact trip (F := F) d L (k0_off3_eq k) acc (k0_pay78 acc) _ (k0_store'_at acc) (fun _ => rfl)

/-! ## The copies out -/

abbrev srcRow (off : Fin 2 → ℕ) (inb : ∀ a, off a + S1x8192.size a ≤ S2x8192.size a) : Memref sig .scVector .vmem S8192 .i32 :=
  ((sV).slice (Rect.unit (s := S2x8192) off S1x8192.size inb) (fun _ => rfl)).squeeze S8192 squeezes_S1x8192_S8192
abbrev dstRow (off : Fin 2 → ℕ) (inb : ∀ a, off a + S1x8192.size a ≤ S1216x8192.size a) : Memref sig .scVector .hbm S8192 .i32 :=
  ((oV).slice (Rect.unit (s := S1216x8192) off S1x8192.size inb) (fun _ => rfl)).squeeze S8192 squeezes_S1x8192_S8192

/-- Column `x` of a squeezed row is column `x` of its row. -/
theorem squeeze_col (x : S8192.Idx) :
    ((Shape.reshapeEquiv squeezes_S1x8192_S8192.numel_eq x : S1x8192.Idx) 0).val = 0
      ∧ ((Shape.reshapeEquiv squeezes_S1x8192_S8192.numel_eq x : S1x8192.Idx) 1).val = (x 0).val := by
  have h := Shape.rowMajor_reshapeEquiv squeezes_S1x8192_S8192.numel_eq x
  rw [Shape.rowMajor_val_one, Shape.rowMajor_val_two] at h
  have h0 : ((Shape.reshapeEquiv squeezes_S1x8192_S8192.numel_eq x : S1x8192.Idx) 0).val < 1 := Fin.isLt _
  have h0' : ((Shape.reshapeEquiv squeezes_S1x8192_S8192.numel_eq x : S1x8192.Idx) 0).val = 0 := by omega
  refine ⟨h0', ?_⟩
  rw [h0'] at h
  have h' : 0 * 8192 + ((Shape.reshapeEquiv squeezes_S1x8192_S8192.numel_eq x : S1x8192.Idx) 1).val = (x 0).val := h
  omega

theorem srcRow_emb {r : ℕ} {off : Fin 2 → ℕ} {inb : ∀ a, off a + S1x8192.size a ≤ S2x8192.size a} (hoff : off = ![r, 0]) (x : S8192.Idx) :
    (((srcRow off inb).view.emb x : S2x8192.Idx) 0).val = r ∧ (((srcRow off inb).view.emb x : S2x8192.Idx) 1).val = (x 0).val := by
  have h := squeeze_col x
  subst hoff
  constructor
  · show r + 1 * ((Shape.reshapeEquiv squeezes_S1x8192_S8192.numel_eq x : S1x8192.Idx) 0).val = r; omega
  · show 0 + 1 * ((Shape.reshapeEquiv squeezes_S1x8192_S8192.numel_eq x : S1x8192.Idx) 1).val = (x 0).val; omega

theorem dstRow_emb {r : ℕ} {off : Fin 2 → ℕ} {inb : ∀ a, off a + S1x8192.size a ≤ S1216x8192.size a} (hoff : off = ![r, 0]) (x : S8192.Idx) :
    (((dstRow off inb).view.emb x : S1216x8192.Idx) 0).val = r ∧ (((dstRow off inb).view.emb x : S1216x8192.Idx) 1).val = (x 0).val := by
  have h := squeeze_col x
  subst hoff
  constructor
  · show r + 1 * ((Shape.reshapeEquiv squeezes_S1x8192_S8192.numel_eq x : S1x8192.Idx) 0).val = r; omega
  · show 0 + 1 * ((Shape.reshapeEquiv squeezes_S1x8192_S8192.numel_eq x : S1x8192.Idx) 1).val = (x 0).val; omega

theorem srcRow_set {r : ℕ} {off : Fin 2 → ℕ} {inb : ∀ a, off a + S1x8192.size a ≤ S2x8192.size a} (hoff : off = ![r, 0]) :
    (srcRow off inb).view.set = slot r := by
  ext j
  constructor
  · intro h
    obtain ⟨x, -, rfl⟩ := Finset.mem_map.mp h
    exact Finset.mem_filter.mpr ⟨Finset.mem_univ _, (srcRow_emb hoff x).1⟩
  · intro h
    have hr : ((j : S2x8192.Idx) 0).val = r := (Finset.mem_filter.mp h).2
    let x : S8192.Idx := fun | 0 => (j : S2x8192.Idx) 1
    refine Finset.mem_map.mpr ⟨x, Finset.mem_univ _, ?_⟩
    funext a; refine Fin.ext ?_
    match a with
    | 0 => exact (srcRow_emb hoff x).1.trans hr.symm
    | 1 => exact (srcRow_emb hoff x).2

theorem dstRow_mem {r : ℕ} {off : Fin 2 → ℕ} {inb : ∀ a, off a + S1x8192.size a ≤ S1216x8192.size a} (hoff : off = ![r, 0])
    (j : S1216x8192.Idx) (hr : (j 0).val = r) : ∃ x : S8192.Idx, (x 0).val = (j 1).val ∧ (dstRow off inb).view.emb x = j := by
  let x : S8192.Idx := fun | 0 => j 1
  refine ⟨x, rfl, ?_⟩
  funext a; refine Fin.ext ?_
  match a with
  | 0 => exact (dstRow_emb hoff x).1.trans hr.symm
  | 1 => exact (dstRow_emb hoff x).2

theorem dstRow_set {r : ℕ} {off : Fin 2 → ℕ} {inb : ∀ a, off a + S1x8192.size a ≤ S1216x8192.size a} (hoff : off = ![r, 0]) :
    (dstRow off inb).view.set = oneRow r := by
  ext j
  constructor
  · intro h
    obtain ⟨x, -, rfl⟩ := Finset.mem_map.mp h
    exact Finset.mem_filter.mpr ⟨Finset.mem_univ _, (dstRow_emb hoff x).1⟩
  · intro h
    obtain ⟨x, -, hx⟩ := dstRow_mem hoff (inb := inb) j (Finset.mem_filter.mp h).2
    exact Finset.mem_map.mpr ⟨x, Finset.mem_univ _, hx⟩

/-- What a copy of slot `r` out to row `R` lands there, once the slot is filled: row `R`'s words. -/
theorem copied {r R : ℕ} {off : Fin 2 → ℕ} {inb : ∀ a, off a + S1x8192.size a ≤ S2x8192.size a} (hoff : off = ![r, 0])
    {off' : Fin 2 → ℕ} {inb' : ∀ a, off' a + S1x8192.size a ≤ S1216x8192.size a} (hoff' : off' = ![R, 0])
    (f : Buf (Elt F) (sLoc d L)) (hf : ∀ j : S2x8192.Idx, (j 0).val = r → (j 1).val < 8192 →
        f j = (hash .vector (BitVec.ofNat 32 (R * 8192 + 42 + (j 1).val)) : BitVec 32))
    (g : Buf (Elt F) (bLoc d)) (j : S1216x8192.Idx) (hj : j ∈ oneRow R) :
    (dstRow off' inb').view.write (Elt F) g ((srcRow off inb).view.read (Elt F) f) Finset.univ j = (bits (F := F) d j) := by
  have hR := (Finset.mem_filter.mp hj).2
  obtain ⟨x, hx, hxj⟩ := dstRow_mem hoff' (inb := inb') j hR
  rw [← hxj, View.write_emb_of_mem _ _ (Finset.mem_univ x)]
  have hs := srcRow_emb hoff (inb := inb) x
  have h := hf ((srcRow off inb).view.emb x) hs.1 (by rw [hs.2]; exact (x 0).isLt)
  rw [hs.2] at h
  refine h.trans ?_
  rw [hxj]
  show _ = bitsAt j
  unfold bitsAt
  rw [hR, hx]

/-- What the copies of one pair hand back: each its row of the random words, filled, and its slot of the scratch. -/
def delivered (R : ℕ) (t : Fin 2) : sProp 𝕄 :=
  iprop((bLoc d ↦[oneRow (R + t.val)]{fullShare} bits d) ∗ ∃ f : Buf (Elt F) (sLoc d L), sLoc d L ↦[slot t.val]{fullShare} f)

instance delivered_storable (R : ℕ) (t : Fin 2) : BI.Storable (upEmb : UEmb _ 𝕄) (delivered (F := F) d L R t) := by
  unfold delivered; infer_instance

/-- The semaphore both copies of a pair count on. -/
abbrev cell (d : Dev nD) (L : grid0.Coords) : GSem nD τ sig := (thr d L, .dma cc0_scratch1.sem)

/-- Before pair `n` of a tile: its rows before the pair's are filled, its scratch is its own, nothing is in flight. -/
def PairInv (O : CellTallies nD τ sig (HIx 1)) (W : Waits sig (HIx 1)) (n : ℕ) (_ : BitVec 32) : sProp 𝕄 :=
  iprop((∃ f : Buf (Elt F) (bLoc d), ⌜∀ j : S1216x8192.Idx, row0 (L 0).val (L 1).val ≤ (j 0).val → (j 0).val < row0 (L 0).val (L 1).val + 2 * n → f j = bits (F := F) d j⌝
      ∗ (bLoc d ↦[tileRows (L 0).val (L 1).val]{fullShare} f))
    ∗ (∃ f : Buf (Elt F) (sLoc d L), sLoc d L ↦[slot 0]{fullShare} f) ∗ (∃ f : Buf (Elt F) (sLoc d L), sLoc d L ↦[slot 1]{fullShare} f)
    ∗ semVal (cell d L) 0
    ∗ levAts (K (F := F)).L (K (F := F)).lev
    ∗ ∃ W', ⌜∀ p ∈ W', p ∈ W ∨ p.2 = none⌝ ∗ owes (thr d L) O W')

theorem rows_split {R c s : ℕ} (h0 : row0 c s ≤ R) (h1 : R < row0 c s + 38) : oneRow R ⊆ tileRows c s := by
  intro j hj
  have := (Finset.mem_filter.mp hj).2
  exact Finset.mem_filter.mpr ⟨Finset.mem_univ _, by omega, by omega⟩

theorem base_zero (k : Fin k0_t1_loop.trips) (l : S16.Idx) :
    k0_pay73 (Scalar.muli (Scalar.addi (Scalar.muli (BitVec.ofNat 32 (L 1).val) 2#32) (BitVec.ofNat 32 (L 0).val)) 38#32)
      (iota .scVector S16 32 [0] iota_S16_d0_w32_scVector) 0#32 1#32 k l
      = BitVec.ofNat 32 ((row0 (L 0).val (L 1).val + 2 * k.val) * 8192 + 42 + 16 * 0 + (l 0).val) := by
  have hk : k.val < 19 := Nat.lt_of_lt_of_le k.isLt k0_t1_abs.2.1
  have h0 : (L 0).val < 2 := (L 0).isLt
  have h1 : (L 1).val < 16 := (L 1).isLt
  have hl : (l 0).val < 16 := (l 0).isLt
  apply BitVec.eq_of_toNat_eq
  simp [row0, k0_pay73, addi, broadcast, iota, Scalar.addi, Scalar.muli, IntOp.addi, IntOp.muli, Scf.iv]
  omega

theorem base_one (k : Fin k0_t1_loop.trips) (l : S16.Idx) :
    k0_pay76 (Scalar.muli (Scalar.addi (Scalar.muli (BitVec.ofNat 32 (L 1).val) 2#32) (BitVec.ofNat 32 (L 0).val)) 38#32)
      (iota .scVector S16 32 [0] iota_S16_d0_w32_scVector) 0#32 1#32 k l
      = BitVec.ofNat 32 ((row0 (L 0).val (L 1).val + 2 * k.val + 1) * 8192 + 42 + 16 * 0 + (l 0).val) := by
  have hk : k.val < 19 := Nat.lt_of_lt_of_le k.isLt k0_t1_abs.2.1
  have h0 : (L 0).val < 2 := (L 0).isLt
  have h1 : (L 1).val < 16 := (L 1).isLt
  have hl : (l 0).val < 16 := (l 0).isLt
  apply BitVec.eq_of_toNat_eq
  simp [row0, k0_pay76, addi, broadcast, iota, Scalar.addi, Scalar.muli, IntOp.addi, IntOp.muli, Scf.iv]
  omega

theorem slot_pts {r : ℕ} {off : Fin 2 → ℕ} {inb : ∀ a, off a + S1x8192.size a ≤ S2x8192.size a} (hoff : off = ![r, 0]) (f : Buf (Elt F) (sLoc d L)) :
    (sLoc d L ↦[slot r]{fullShare} f : sProp 𝕄) = ((srcRow off inb).view.loc (thr d L) ↦[(srcRow off inb).view.set]{fullShare} f) := by
  rw [srcRow_set hoff]

/-- The copy of slot `t`, once the slot holds row `R + t`, delivers. -/
theorem landed {R : ℕ} (t : Fin 2) {off : Fin 2 → ℕ} {inb : ∀ a, off a + S1x8192.size a ≤ S2x8192.size a} (hoff : off = ![t.val, 0])
    {off' : Fin 2 → ℕ} {inb' : ∀ a, off' a + S1x8192.size a ≤ S1216x8192.size a} (hoff' : off' = ![R + t.val, 0])
    (f : Buf (Elt F) (sLoc d L)) (hf : ∀ j : S2x8192.Idx, (j 0).val = t.val → (j 1).val < 8192 →
        f j = (hash .vector (BitVec.ofNat 32 ((R + t.val) * 8192 + 42 + (j 1).val)) : BitVec 32))
    (g : Buf (Elt F) (bLoc d)) :
    iprop(((dstRow off' inb').view.loc (thr d L) ↦[oneRow (R + t.val)]{fullShare}
          ((dstRow off' inb').view.write (Elt F) g (ReadAs.same.apply ((srcRow off inb).view.read (Elt F) f)) Finset.univ))
        ∗ ((srcRow off inb).view.loc (thr d L) ↦[(srcRow off inb).view.set]{fullShare} f))
      ⊢ delivered (F := F) d L R t := by
  unfold delivered
  iintro ⟨Hd, Hs⟩
  isplitl [Hd]
  · iapply (Entails.of_eq (pointsTo_congr (ℓ := bLoc d) (q := fullShare) (fun j hj => copied (F := F) d L hoff (inb := inb) hoff' (inb' := inb') f hf g j hj)))
    iexact Hd
  · iexists f
    iapply (Entails.of_eq (slot_pts (F := F) d L hoff f).symm)
    iexact Hs

theorem bigSep_univ_two (Φ : Fin 2 → sProp 𝕄) : bigSep Finset.univ Φ = iprop(Φ 0 ∗ Φ 1) := by
  rw [Transfers.bigSep_pending_zero, Transfers.bigSep_pending_step Φ 0 (by decide), Transfers.bigSep_pending_last Φ 1 (by decide) rfl]
  rfl

/-- The amount of one copy. -/
def amt : ℕ := (dstRow ![0, 0] (by decide)).view.dmaCredit

theorem amt_eq (off : Fin 2 → ℕ) (inb : ∀ a, off a + S1x8192.size a ≤ S1216x8192.size a) : (dstRow off inb).view.amount (.dma cc0_scratch1.sem) = amt := rfl

theorem amt_pos : 0 < amt := Nat.pos_of_ne_zero (by unfold amt; decide)

/-- Sending row `R + t` of the slot that holds it. -/
theorem send {R n : ℕ} (hn : n < 2) {off : Fin 2 → ℕ} {inb : ∀ a, off a + S1x8192.size a ≤ S2x8192.size a} (hoff : off = ![n, 0])
    {off' : Fin 2 → ℕ} {inb' : ∀ a, off' a + S1x8192.size a ≤ S1216x8192.size a} (hoff' : off' = ![R + n, 0])
    (f : Buf (Elt F) (sLoc d L)) (hf : ∀ j : S2x8192.Idx, (j 0).val = n → (j 1).val < 8192 →
        f j = (hash .vector (BitVec.ofNat 32 ((R + n) * 8192 + 42 + (j 1).val)) : BitVec 32))
    (g : Buf (Elt F) (bLoc d)) {α : Type} {Q : α → sProp 𝕄} {hs hd hm}
    {k : PUnit → Prog (TpuEff nD τ sig (Elt F) Λ₀ (thr d L).2) α} :
    iprop((sLoc d L ↦[slot n]{fullShare} f) ∗ (bLoc d ↦[oneRow (R + n)]{fullShare} g)
        ∗ Transfers.Batch countersEmb (thr d L) (.dma cc0_scratch1.sem) (default : HIx 1) amt (delivered (F := F) d L R) n 0)
      ⊢ iprop((Transfers.Batch countersEmb (thr d L) (.dma cc0_scratch1.sem) (default : HIx 1) amt (delivered (F := F) d L R) (n + 1) 0
            -∗ wp frame (wpE (defs₀ (F := F)) 𝒱₀ (thr d L) none) Set.univ (k ⟨⟩) Q)
          -∗ wp frame (wpE (defs₀ (F := F)) 𝒱₀ (thr d L) none) Set.univ
              (.op (.enqueueDma (srcRow off inb) (.here (dstRow off' inb')) (.dma cc0_scratch1.sem) hs hd hm) k) Q) := by
  rw [slot_pts d L hoff (inb := inb) f]
  have h1 := amt_eq off' inb'
  have h2 := landed (F := F) d L ⟨n, hn⟩ hoff hoff' (inb := inb) (inb' := inb') f hf g
  have h3 : (dstRow off' inb').view.set ⊆ oneRow (R + n) := (dstRow_set hoff').subset
  refine Transfers.wp_dmaBatch countersEmb 𝒱₀ (thr d L) none (Q := Q) (k := k) (hsrc := hs) (hdst := hd) (hsem := hm) (q := fullShare) (fs := f)
    (src := srcRow off inb) (via := .same) (dst := dstRow off' inb') (Sd := oneRow (R + n)) (fd := g)
    (D := delivered (F := F) d L R) (j := n) (u := 0) (default : HIx 1) amt h1 h3 hn (Nat.zero_le _) ?_
  exact h2

/-- One pair of rows. -/
theorem t1_step (O : CellTallies nD τ sig (HIx 1)) (W : Waits sig (HIx 1)) (hO : ∀ g, O g none = 0)
    (k : Fin k0_t1_loop.trips) (acc : BitVec 32) :
    PairInv (F := F) d L O W k.val acc
      ⊢ wp frame (wpE (defs₀ (F := F)) 𝒱₀ (thr d L) none) Set.univ
          (k0_t1_body L oV (Memref.isWhole_whole _) sV (Memref.isWhole_whole _) cc0_scratch1
            (Scalar.muli (Scalar.addi (Scalar.muli (BitVec.ofNat 32 (L 1).val) 2#32) (BitVec.ofNat 32 (L 0).val)) 38#32)
            (iota .scVector S16 32 [0] iota_S16_d0_w32_scVector) k acc)
          (PairInv (F := F) d L O W (k.val + 1)) := by
  have hk : k.val < 19 := Nat.lt_of_lt_of_le k.isLt k0_t1_abs.2.1
  have hoff2 : k0_off2 L k = ![row0 (L 0).val (L 1).val + 2 * k.val, 0] := by
    rw [k0_off2_eq]; congr 1; unfold row0; omega
  have hoff4 : k0_off4 L k = ![row0 (L 0).val (L 1).val + 2 * k.val + 1, 0] := by
    rw [k0_off4_eq]; congr 1; unfold row0; omega
  generalize hR : row0 (L 0).val (L 1).val + 2 * k.val = R at hoff2 hoff4
  have hsub0 : oneRow R ⊆ tileRows (L 0).val (L 1).val := rows_split (by omega) (by omega)
  have hsub1 : oneRow (R + 1) ⊆ tileRows (L 0).val (L 1).val \ oneRow R := fun j hj =>
    Finset.mem_sdiff.mpr ⟨rows_split (c := (L 0).val) (s := (L 1).val) (by omega) (by omega) hj, fun h => by
      have h1 := (Finset.mem_filter.mp hj).2; have h2 := (Finset.mem_filter.mp h).2; omega⟩
  unfold k0_t1_body
  simp only [k0_part7_eq_skeleton]
  unfold k0_part7_skel
  simp only [wp_bind, Prog.lift]
  unfold PairInv
  iintro ⟨⟨%f, %hf, Hb⟩, ⟨%f0, H0⟩, ⟨%f1, H1⟩, Hsem, #Hlv, %W', %hW', HO⟩
  ihave Hmw := (show levAts (K (F := F)).L (K (F := F)).lev ⊢ Transfers.MayWaits (thr d L) (default : HIx 1) O from
    (K (F := F)).mayWaits_none (thr := thr d L) hO) $$ Hlv
  -- the first row of the pair, in slot 0
  iapply (Scf.wp_for frame (wpE (defs₀ (F := F)) 𝒱₀ (thr d L) none) Set.univ _ _ _ k0_t2_ok _ _ (RowInv (F := F) d L 0 (R * 8192 + 42))
    (fun k' a => t2_step d L _ _ _ k _ k' a))
  isplitl [H0]
  · unfold RowInv
    isplitr
    · ipureintro; intro l; rw [base_zero, hR]
    iexists f0; isplitr
    swap; · iexact H0
    ipureintro; intro j _ h; exact absurd h (Nat.not_lt_zero _)
  iintro %a0 H0
  unfold RowInv
  icases H0 with ⟨-, %g0, %hg0, H0⟩
  imod (Transfers.batch_alloc' countersEmb (thr d L) (sm := .dma cc0_scratch1.sem) (default : HIx 1) amt (delivered (F := F) d L R)) $$ Hsem with HB
  ihave Hb := (pointsTo_split_subset (q := fullShare) (f := f) hsub0).1 $$ Hb
  icases Hb with ⟨Hr0, Hb⟩
  ihave Hb := (pointsTo_split_subset (q := fullShare) (f := f) hsub1).1 $$ Hb
  icases Hb with ⟨Hr1, Hb⟩
  iapply (send (F := F) d L (R := R) (n := 0) zero_lt_two rfl hoff2 g0 (fun j h h' => hg0 j h (by exact h')) f) $$ [H0 Hr0 HB]
  · isplitl [H0]; · iexact H0
    isplitl [Hr0]; · iexact Hr0
    iexact HB
  iintro HB
  rw [wp_ret]; imodintro
  -- the second, in slot 1
  iapply (Scf.wp_for frame (wpE (defs₀ (F := F)) 𝒱₀ (thr d L) none) Set.univ _ _ _ k0_t3_ok _ _ (RowInv (F := F) d L 1 ((R + 1) * 8192 + 42))
    (fun k' a => t3_step d L _ _ _ k _ k' a))
  isplitl [H1]
  · unfold RowInv
    isplitr
    · ipureintro; intro l; rw [base_one, hR]
    iexists f1; isplitr
    swap; · iexact H1
    ipureintro; intro j _ h; exact absurd h (Nat.not_lt_zero _)
  iintro %a1 H1
  unfold RowInv
  icases H1 with ⟨-, %g1, %hg1, H1⟩
  rw [wp_pure]; imodintro
  iapply (send (F := F) d L (R := R) (n := 1) one_lt_two (inb := inb_S2x8192_S1x8192_1_0) rfl (inb' := k0_off4_inb L k) hoff4 g1 (fun j h h' => hg1 j h (by exact h')) f) $$ [H1 Hr1 HB]
  · isplitl [H1]; · iexact H1
    isplitl [Hr1]; · iexact Hr1
    iexact HB
  iintro HB
  rw [wp_ret]; imodintro
  -- the two waits
  iapply (Transfers.wp_waitBatchO countersEmb 𝒱₀ (thr d L) none (default : HIx 1) (N := amt) (amt_eq _ _) (D := delivered (F := F) d L R) (u := 0) (by have := amt_pos; omega)) $$ [HB HO]
  · isplitl [HB]; · iexact HB
    isplitl [HO]; · iexact HO
    iapply (Transfers.MayWaits.elim (SemLoc.dma cc0_scratch1.sem)) $$ Hmw
  iintro ⟨HB, HO⟩
  rw [wp_ret]; imodintro
  iapply (Transfers.wp_waitBatchLastO countersEmb 𝒱₀ (thr d L) none (default : HIx 1) (N := amt) (amt_eq _ _) amt_pos (D := delivered (F := F) d L R) (u := 0 + amt) (by omega)) $$ [HB HO]
  · isplitl [HB]; · iexact HB
    isplitl [HO]; · iexact HO
    iapply (Transfers.MayWaits.elim (SemLoc.dma cc0_scratch1.sem)) $$ Hmw
  iintro ⟨HD, Hsem, HO⟩
  rw [wp_ret]; imodintro
  rw [wp_pure]; imodintro
  ihave HD := (Entails.of_eq (bigSep_univ_two (delivered (F := F) d L R))) $$ HD
  unfold delivered
  icases HD with ⟨⟨Hr0, H0⟩, Hr1, H1⟩
  ihave Hb := (pointsTo_join_subset (q := fullShare) (g := bits (F := F) d) (f := f) hsub1) $$ [Hr1 Hb]
  · isplitl [Hr1]; · iexact Hr1
    iexact Hb
  ihave Hb := (pointsTo_join_subset (q := fullShare) (g := bits (F := F) d) hsub0) $$ [Hr0 Hb]
  · isplitl [Hr0]; · iexact Hr0
    iexact Hb
  isplitl [Hb]
  · iexists _; isplitr
    swap; · iexact Hb
    ipureintro; intro j h1 h2
    by_cases hj0 : j ∈ oneRow R
    · exact Finset.piecewise_eq_of_mem _ _ _ hj0
    rw [Finset.piecewise_eq_of_notMem _ _ _ hj0]
    by_cases hj1 : j ∈ oneRow (R + 1)
    · exact Finset.piecewise_eq_of_mem _ _ _ hj1
    rw [Finset.piecewise_eq_of_notMem _ _ _ hj1]
    refine hf j h1 ?_
    simp only [oneRow, Finset.mem_filter, Finset.mem_univ, true_and] at hj0 hj1
    omega
  isplitl [H0]; · iexact H0
  isplitl [H1]; · iexact H1
  isplitl [Hsem]; · iexact Hsem
  isplitr; · iexact Hlv
  iexists _; isplitr
  swap; · iexact HO
  ipureintro; intro p hp
  simp only [Finset.mem_insert] at hp
  rcases hp with rfl | rfl | hp
  · exact .inr rfl
  · exact .inr rfl
  · exact hW' p hp

end Tile

end Cert.Proof.Run
-- ==== Proof.Tasks.lean ====
module

public import proofs.«01_k».proof.Proof.Tile

@[expose] public section

/-! # The SparseCore call

  One tile's task: nineteen pairs of rows. The rows of the random words split among the tiles and join
  again, and the call's obligations follow. -/

noncomputable section

namespace Cert.Proof.Run

open Cert.KernelIdeal Cert.KernelIdeal.Gen Cert.Hash

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "oV" => (Memref.whole Cert.KernelIdeal.main_v1_scv : Memref Cert.KernelIdeal.sig Kind.scVector Space.hbm Cert.KernelIdeal.S1216x8192 EltTy.i32)
local notation "sV" => (Memref.whole Cert.KernelIdeal.cc0_scratch0 : Memref Cert.KernelIdeal.sig Kind.scVector Space.vmem Cert.KernelIdeal.S2x8192 EltTy.i32)

variable (m : (ℓ : Loc nD τ sig) → Buf (Elt F) ℓ) (ρ : Dev nD → PrngReg)
variable [FloatOps F]

section Tile

variable (d : Dev nD) (L : grid0.Coords)

/-- The scratch semaphore is one of the tile's own. -/
theorem ownSems0_V :
    (ownSems0 (V d (cV L) (jV L)) : sProp 𝕄)
      = iprop(semVal (cell d L) 0 ∗ bigSep ((ownCells (V d (cV L) (jV L))).erase (cell d L)) fun g => semVal g 0) := by
  unfold SparseCore.Cfg.ownSems0
  rw [SparseCore.bigSep_erase' ((mem_ownCells (g := cell d L)).mpr ⟨rfl, by
      show (SemLoc.dma cc0_scratch1.sem : SemLoc sig).isScoped .scVector = true; decide⟩)]

/-- The scratch buffer is one of the tile's own. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The two slots are disjoint and make up the scratch buffer. -/
theorem slots_union : slot 0 ∪ slot 1 = (Finset.univ : Finset S2x8192.Idx) := by
  ext j
  have h := (j 0).isLt
  have h2 : S2x8192.size 0 = 2 := rfl
  simp only [slot, Finset.mem_union, Finset.mem_filter, Finset.mem_univ, true_and, iff_true]
  omega
theorem slots_disjoint : Disjoint (slot 0) (slot 1) := by
  rw [Finset.disjoint_left]
  intro j h0 h1
  simp only [slot, Finset.mem_filter, Finset.mem_univ, true_and] at h0 h1
  omega

set_option maxHeartbeats 1000000 in
/-- The task of one tile: its thirty-eight rows hold their words when it ends. -/
theorem tile_body (hF : (K (F := F)).Facts) (O : CellTallies nD τ sig (HIx 1)) (W : Waits sig (HIx 1)) (hO : ∀ g, O g none = 0) :
    iprop(levAts (K (F := F)).L (K (F := F)).lev ∗ emp
        ∗ (bLoc d ↦[tileRows (L 0).val (L 1).val]{fullShare} m (bLoc d) : sProp 𝕄)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_bits L oV (Memref.isWhole_whole _) sV (Memref.isWhole_whole _) cc0_scratch1)
          fun _ => iprop((bLoc d ↦[tileRows (L 0).val (L 1).val]{fullShare} bits d : sProp 𝕄)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_bits_eq_skeleton]; unfold cc0_sc_bits_skel
  rw [(K (F := F)).scopedBufs_V hF d (cV L) (jV L), SparseCore.Cfg.scopedSems0_V (Val := Elt F) d (cV L) (jV L), ownSems0_V, ownBufs_V]
  iintro ⟨#Hlv, -, Hb, ⟨⟨%fs, Hs⟩, Hbufs⟩, ⟨Hsem, Hsems⟩, HO⟩
  simp only [wp_bind]
  ihave Hs := (Entails.of_eq (show ((V d (cV L) (jV L)).loc cc0_scratch0 ↦{fullShare} fs : sProp 𝕄) = (sLoc d L ↦[slot 0 ∪ slot 1]{fullShare} fs) by
    rw [slots_union])) $$ Hs
  ihave Hs := (pointsTo_union (q := fullShare) (f := fs) slots_disjoint).1 $$ Hs
  icases Hs with ⟨H0, H1⟩
  iapply (Scf.wp_for frame (wpE (defs₀ (F := F)) 𝒱₀ (thr d L) none) Set.univ _ _ _ k0_t1_ok _ _ (PairInv (F := F) d L O W)
    (fun k a => t1_step d L O W hO k a))
  isplitl [Hb H0 H1 Hsem HO]
  · unfold PairInv
    isplitl [Hb]
    · iexists _; isplitr
      swap; · iexact Hb
      ipureintro; intro j h1 h2; omega
    isplitl [H0]; · iexists _; iexact H0
    isplitl [H1]; · iexists _; iexact H1
    isplitl [Hsem]; · iexact Hsem
    isplitr; · iexact Hlv
    iexists W; isplitr
    · ipureintro; exact fun p hp => .inl hp
    iexact HO
  iintro %a H
  unfold PairInv
  icases H with ⟨⟨%f, %hf, Hb⟩, ⟨%g0, H0⟩, ⟨%g1, H1⟩, Hsem, -, HO⟩
  rw [wp_pure]; imodintro
  ihave Hs := (pointsTo_join (ℓ := sLoc d L) (q := fullShare) (f := g0) (g := g1) slots_disjoint) $$ [H0 H1]
  · isplitl [H0]; · iexact H0
    iexact H1
  isplitl [Hb]
  · iapply (Entails.of_eq (pointsTo_congr (ℓ := bLoc d) (q := fullShare) (f := f) (g := bits d) fun j hj => by
      simp only [tileRows, Finset.mem_filter, Finset.mem_univ, true_and] at hj
      exact hf j hj.1 (by rw [show Scf.trips k0_t1_loop.lb k0_t1_loop.ub k0_t1_loop.st = 19 by decide]; omega)))
    iexact Hb
  isplitl [Hs Hbufs]
  · isplitl [Hs]
    · iexists _
      iapply (Entails.of_eq (show ((V d (cV L) (jV L)).loc cc0_scratch0 ↦{fullShare} _ : sProp 𝕄) = (sLoc d L ↦[slot 0 ∪ slot 1]{fullShare} _) by
        rw [slots_union]).symm)
      iexact Hs
    iexact Hbufs
  isplitl [Hsem Hsems]
  · isplitl [Hsem]; · iexact Hsem
    iexact Hsems
  iexact HO

/-! ## The obligation -/

/-- The grid coordinates of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_bits (coordsV c s)
          oV (Memref.isWhole_whole _) sV (Memref.isWhole_whole _) cc0_scratch1) ⟨⟩ c s := rfl

/-- What a tile has waited on is a wait the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## The rows of the tiles of a SparseCore -/

theorem tiles_disjoint (c : ℕ) : ∀ i ∈ (Finset.univ : Finset (Fin 16)), ∀ j ∈ (Finset.univ : Finset (Fin 16)), i ≠ j →
    Disjoint (tileRows c i.val) (tileRows c j.val) := by
  intro i _ j _ hij
  rw [Finset.disjoint_left]
  intro x hx hy
  simp only [tileRows, row0, Finset.mem_filter, Finset.mem_univ, true_and] at hx hy
  exact hij (Fin.ext (by omega))

theorem tiles_cover (c : ℕ) (hc : c < 2) : (Finset.univ : Finset (Fin 16)).biUnion (fun i => tileRows c i.val) = coreRows c := by
  ext x
  have hx : (x 0).val < 1216 := (x 0).isLt
  simp only [tileRows, coreRows, row0, Finset.mem_biUnion, Finset.mem_filter, Finset.mem_univ, true_and]
  constructor
  · rintro ⟨i, h⟩; omega
  · intro h
    exact ⟨⟨(x 0).val / 76, by omega⟩, by dsimp only; omega⟩

theorem core_tiles (d : Dev nD) (c : ℕ) (hc : c < 2) (f : Buf (Elt F) (bLoc d)) :
    (bLoc d ↦[coreRows c]{fullShare} f : sProp 𝕄) = bigSep Finset.univ fun i : Fin 16 => bLoc d ↦[tileRows c i.val]{fullShare} f := by
  rw [← pointsTo_biUnion Finset.univ (ℓ := bLoc d) (fun i : Fin 16 => tileRows c i.val) (tiles_disjoint c), tiles_cover c hc]

theorem vecSplit : (K (F := F)).VecSplit' (P m) 0 := by
  intro d c
  have hc : c.val < 2 := c.isLt
  show iprop(bLoc d ↦[coreRows c.val]{fullShare} m (bLoc d)) ⊢ |={Set.univ}=> iprop(
      (bigSep Finset.univ fun i : Fin 16 => iprop(bLoc d ↦[tileRows c.val i.val]{fullShare} m (bLoc d)))
      ∗ ((bigSep Finset.univ fun i : Fin 16 => iprop(bLoc d ↦[tileRows c.val i.val]{fullShare} bits d))
          -∗ iprop(bLoc d ↦[coreRows c.val]{fullShare} bits d)))
  rw [core_tiles d c.val hc, core_tiles d c.val hc]
  iintro H; imodintro
  isplitl [H]; · iexact H
  iintro H; iexact H

/-! ## The rows of the SparseCores -/

theorem cores_union : coreRows 0 ∪ coreRows 1 = (Finset.univ : Finset S1216x8192.Idx) := by
  ext x
  simp only [coreRows, Finset.mem_union, Finset.mem_filter, Finset.mem_univ, true_and, iff_true]
  omega
theorem cores_disjoint : Disjoint (coreRows 0) (coreRows 1) := by
  rw [Finset.disjoint_left]
  intro x h0 h1
  simp only [coreRows, Finset.mem_filter, Finset.mem_univ, true_and] at h0 h1
  omega

theorem cores_pts (d : Dev nD) (f : Buf (Elt F) (bLoc d)) :
    (bigSep Finset.univ fun c : Fin 2 => (bLoc d ↦[coreRows c.val]{fullShare} f : sProp 𝕄)) = (bLoc d ↦{fullShare} f) := by
  rw [bigSep_univ_two, ← cores_union]
  exact (BI.equiv_iff.mp ⟨(pointsTo_union (ℓ := bLoc d) cores_disjoint).1, (pointsTo_union (ℓ := bLoc d) cores_disjoint).2⟩).symm

theorem st0_eq (d : Dev nD) : (bigSep Finset.univ fun c : Fin ((K (F := F)).nCore 0) => (P m).st 0 d c) = (bLoc d ↦{fullShare} m (bLoc d)) :=
  cores_pts d (m (bLoc d))
theorem dn0_eq (d : Dev nD) : (bigSep Finset.univ fun c : Fin ((K (F := F)).nCore 0) => (P m).dn 0 d c) = (bLoc d ↦{fullShare} bits d) :=
  cores_pts d (bits d)

end Cert.Proof.Run

end
-- ==== Proof.Body.lean ====
module

public import proofs.«01_k».proof.Proof.Setup
public import proofs.«01_k».proof.Proof.Gen.KernelIdeal.Points
public import Idealize.ShloMosaic.Lib.Pipeline.Value

@[expose] public section

/-! # The TensorCore bodies

  Both TensorCore calls fill a block of 64 rows with the noisy logits, 256 columns a trip — the first
  call hashing each position's word itself, the second taking the words the SparseCores stored —
  and then replace the block by the one-hot of each row's first maximum. Each body is run once, over
  any whole staging buffers. -/

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Hash

variable {F : FTy → Type} [FloatOps F]

local notation "𝕄" => MT nD τ sig (HIx 1) (Elt F) ℕ UU ℕ

/-- The rectangle of one trip: 256 columns of all the block's rows. -/
abbrev cols (off : Fin 2 → ℕ) (inb : ∀ a, off a + S64x256.size a ≤ S64x8192.size a) : Rect S64x8192 := Rect.unit (s := S64x8192) off S64x256.size inb

theorem cols_idx {off : Fin 2 → ℕ} {inb : ∀ a, off a + S64x256.size a ≤ S64x8192.size a} (x : S64x256.Idx) (a : Fin 2) :
    ((cols off inb).emb x a).val = off a + (x a).val := by
  simp

/-- The trip's rectangle holds the columns from `256 * k` on. -/
theorem stored_cols {k : ℕ} {off : Fin 2 → ℕ} {inb : ∀ a, off a + S64x256.size a ≤ S64x8192.size a} (hoff : off = ![0, 256 * k])
    (m : Memref sig .tc .vmem S64x8192 .f32) (Z : S64x8192.Idx → F .f32) (x : S64x256.Idx → F .f32)
    (hx : ∀ i, x i = Z ((cols off inb).emb i)) (f : m.view.ty.Contents (Elt F))
    (hf : ∀ y : S64x8192.Idx, (y 1).val < 256 * k → m.view.read (Elt F) f y = Z y) (y : S64x8192.Idx) (hy : (y 1).val < 256 * (k + 1)) :
    m.view.read (Elt F) ((m.access (cols off inb)).write (Elt F) f x Finset.univ) y = Z y := by
  by_cases h : (y 1).val < 256 * k
  · refine (View.read_slice_write_of_not_mem (v := m.view) (cols off inb) f x Finset.univ ?_).trans (hf y h)
    intro hm
    obtain ⟨i, -, rfl⟩ := Finset.mem_map.mp hm
    rw [cols_idx, hoff] at h
    have : 256 * k + (i 1).val < 256 * k := h
    omega
  · let i : S64x256.Idx := fun | 0 => ⟨(y 0).val, (y 0).isLt⟩ | 1 => ⟨(y 1).val - 256 * k, by show _ < 256; omega⟩
    have hi : (cols off inb).emb i = y := by
      funext a
      refine Fin.ext ?_
      rw [cols_idx, hoff]
      match a with
      | 0 => show 0 + (y 0).val = (y 0).val; omega
      | 1 => show 256 * k + ((y 1).val - 256 * k) = (y 1).val; omega
    rw [← hi]
    exact (View.read_slice_write_emb (v := m.view) (cols off inb) f x (Finset.mem_univ i)).trans (hx i)

/-! ## The first call -/

/-- The word hashed at an element of block `g`, and the noisy logit there. -/
def wordAt (g : ℕ) (y : S64x8192.Idx) : BitVec 32 := BitVec.ofNat 32 ((g * 64 + (y 0).val) * 8192 + 42 + (y 1).val)
def noisy1 (g : ℕ) (X : S64x8192.Idx → F .f32) (y : S64x8192.Idx) : F .f32 := noisy (X y) (hash .vector (wordAt g y))

theorem k1_word (i : grid1.Coords) (t : Fin k1_t1_loop.trips) (x : S64x256.Idx) {inb : ∀ a, k1_off1 t a + S64x256.size a ≤ S64x8192.size a} :
    k1_pay4 (k1_pay1 i) 0#32 1#32 t x = wordAt ((i 0).val + 19) ((cols (k1_off1 t) inb).emb x) := by
  have hk : t.val < 32 := Nat.lt_of_lt_of_le t.isLt k1_t1_abs.2.1
  have h0 : (i 0).val < 45 := (i 0).isLt
  have hx0 : (x 0).val < 64 := (x 0).isLt
  have hx1 : (x 1).val < 256 := (x 1).isLt
  unfold wordAt
  rw [cols_idx, cols_idx, k1_off1_eq]
  apply BitVec.eq_of_toNat_eq
  simp [k1_pay4, k1_pay1, addi, muli, broadcast, iota, Scalar.addi, Scalar.muli, IntOp.addi, IntOp.muli, Scf.iv]
  omega

/-- Before trip `k`: the logits' block as fetched, the result's holding the noisy logits in its first `256 * k` columns. -/
def Inv1 (d : Dev nD) (g : ℕ) (arg1 arg2 : Memref sig .tc .vmem S64x8192 .f32) (f : arg1.view.ty.Contents (Elt F)) (k : ℕ) (_ : Unit) : sProp 𝕄 :=
  iprop((arg1.view.loc (T d) ↦[arg1.view.set]{fullShare} f)
    ∗ ∃ h : Buf (Elt F) (arg2.view.loc (T d)), ⌜∀ y : S64x8192.Idx, (y 1).val < 256 * k → arg2.view.read (Elt F) h y = noisy1 g (arg1.view.read (Elt F) f) y⌝
      ∗ (arg2.view.loc (T d) ↦[arg2.view.set]{fullShare} h))

theorem access_sub {κ : Kind} {sp : CoreSpace} {s : Shape} {e : EltTy} (m : Memref sig κ sp s e) (r : Rect s) : (m.access r).set ⊆ m.view.set := by
  intro j hj
  obtain ⟨x, -, rfl⟩ := Finset.mem_map.mp hj
  exact View.emb_mem_set m.view (r.emb x)

theorem trip1 (d : Dev nD) (i : grid1.Coords) (arg1 : Memref sig .tc .vmem S64x8192 .f32) (harg1 : arg1.IsWhole)
    (arg2 : Memref sig .tc .vmem S64x8192 .f32) (harg2 : arg2.IsWhole) (f : arg1.view.ty.Contents (Elt F)) (t : Fin k1_t1_loop.trips) (a : Unit) :
    Inv1 (F := F) d ((i 0).val + 19) arg1 arg2 f t.val a
      ⊢ wp frame (wpE (defs₀ (F := F)) 𝒱₀ (T d) none) Set.univ (k1_t1_body (F := F) i arg1 harg1 arg2 harg2 t a)
          (Inv1 (F := F) d ((i 0).val + 19) arg1 arg2 f (t.val + 1)) := by
  unfold k1_t1_body
  rw [k1_part1_eq_skeleton, k1_part2_eq_skeleton, k1_part3_eq_skeleton, k1_part4_eq_skeleton]
  unfold k1_part1_skel k1_part2_skel k1_part3_skel k1_part4_skel Inv1
  simp only [wp_bind, Prog.lift, wp_pure]
  iintro ⟨H1, %h, %hh, H2⟩
  repeat imodintro
  iapply (wp_load_rect 𝒱₀ (T d) none Set.univ (m := arg1) (r := cols (k1_off1 t) (k1_off1_inb t)) (by exact access_sub _ _)) $$ H1
  iintro H1
  rw [wp_ret]; imodintro
  iapply (wp_load_rect 𝒱₀ (T d) none Set.univ (m := arg2) (r := cols (k1_off1 t) (k1_off1_inb t)) (by exact access_sub _ _)) $$ H2
  iintro H2
  rw [wp_ret]; imodintro
  iapply (wp_store 𝒱₀ (T d) none Set.univ (m := arg2) (r := cols (k1_off1 t) (k1_off1_inb t)) (by exact access_sub _ _)) $$ H2
  iintro H2
  rw [wp_ret]; imodintro
  imodintro
  isplitl [H1]; · iexact H1
  iexists _
  isplitr
  swap; · iexact H2
  ipureintro
  refine stored_cols (F := F) (k1_off1_eq t) arg2 _ _ (fun x => ?_) h hh
  rw [k1_value_at, k1_noise_at _ _ _ _ _ _ rfl rfl rfl, k1_word i t x (inb := k1_off1_inb t), shapeCast_self]
  rfl

/-- The rectangle of the whole block. -/
abbrev whole2 : Rect S64x8192 := Rect.unit (s := S64x8192) ![0, 0] S64x8192.size inb_S64x8192_S64x8192_0_0

theorem whole2_emb (x : S64x8192.Idx) : whole2.emb x = x := by
  funext a
  refine Fin.ext ?_
  match a with
  | 0 => show 0 + 1 * (x 0).val = (x 0).val; omega
  | 1 => show 0 + 1 * (x 1).val = (x 1).val; omega

theorem read_whole2 (m : Memref sig .tc .vmem S64x8192 .f32) (f : m.view.ty.Contents (Elt F)) :
    (m.access whole2).read (Elt F) f = m.view.read (Elt F) f :=
  funext fun x => congrArg (m.view.read (Elt F) f) (whole2_emb x)

theorem read_write_whole2 (m : Memref sig .tc .vmem S64x8192 .f32) (f : m.view.ty.Contents (Elt F)) (w : S64x8192.Idx → F .f32) :
    m.view.read (Elt F) ((m.access whole2).write (Elt F) f w Finset.univ) = w :=
  (read_whole2 (F := F) m _).symm.trans (View.read_write_univ (v := m.access whole2) f w)

theorem trips1 : k1_t1_loop.trips = 32 := by decide

/-- The first call's body leaves the one-hot of the noisy logits in the result's block. -/
theorem body1 (d : Dev nD) (i : grid1.Coords) (arg1 : Memref sig .tc .vmem S64x8192 .f32) (harg1 : arg1.IsWhole)
    (arg2 : Memref sig .tc .vmem S64x8192 .f32) (harg2 : arg2.IsWhole) (X Y : S64x8192.Idx → F .f32) :
    iprop(owns (T d) arg1 fullShare X ∗ owns (T d) arg2 fullShare Y)
      ⊢ (wp frame (wpE (defs₀ (F := F)) 𝒱₀ (T d) none) Set.univ (cc1__tc_full_body (F := F) i arg1 harg1 arg2 harg2) fun _ =>
          iprop(owns (T d) arg1 fullShare X ∗ owns (T d) arg2 fullShare (k1_pay3 (noisy1 ((i 0).val + 19) X))) : sProp 𝕄) := by
  rw [cc1__tc_full_body_eq_skeleton]
  unfold cc1__tc_full_body_skel owns
  simp only [wp_bind, Prog.lift, wp_pure]
  iintro ⟨⟨%f, %hf, H1⟩, ⟨%g, %hg, H2⟩⟩
  iapply (Scf.wp_for frame (wpE (defs₀ (F := F)) 𝒱₀ (T d) none) Set.univ _ _ _ k1_t1_ok _ _ (Inv1 (F := F) d ((i 0).val + 19) arg1 arg2 f)
    (fun k a => trip1 d i arg1 harg1 arg2 harg2 f k a))
  isplitl [H1 H2]
  · unfold Inv1
    isplitl [H1]; · iexact H1
    iexists g; isplitr
    swap; · iexact H2
    ipureintro; intro y h; exact absurd h (Nat.not_lt_zero _)
  iintro %a HI
  unfold Inv1
  icases HI with ⟨H1, %h, %hh, H2⟩
  iapply (wp_load_rect 𝒱₀ (T d) none Set.univ (m := arg2) (r := whole2) (by exact access_sub _ _)) $$ H2
  iintro H2
  rw [wp_ret]; imodintro
  iapply (wp_load_rect 𝒱₀ (T d) none Set.univ (m := arg2) (r := whole2) (by exact access_sub _ _)) $$ H2
  iintro H2
  rw [wp_ret]; imodintro
  iapply (wp_store 𝒱₀ (T d) none Set.univ (m := arg2) (r := whole2) (by exact access_sub _ _)) $$ H2
  iintro H2
  rw [wp_ret]; imodintro
  imodintro
  isplitl [H1]
  · iexists f; isplitr; · ipureintro; exact hf
    iexact H1
  iexists _
  isplitr
  swap; · iexact H2
  ipureintro
  have hz : arg2.view.read (Elt F) h = noisy1 ((i 0).val + 19) X := by
    rw [← hf]
    funext y
    have hy : (y 1).val < 8192 := (y 1).isLt
    exact hh y (by show (y 1).val < 256 * k1_t1_loop.trips; rw [trips1]; omega)
  rw [read_write_whole2, read_whole2, hz]

/-! ## The second call -/

/-- The noisy logits from words held in a block. -/
def noisy2 (B : S64x8192.Idx → BitVec 32) (X : S64x8192.Idx → F .f32) (y : S64x8192.Idx) : F .f32 := noisy (X y) (B y)

/-- Before trip `k`: the words' and the logits' blocks as fetched, the result's holding the noisy logits in its first `256 * k` columns. -/
def Inv2 (d : Dev nD) (arg1 : Memref sig .tc .vmem S64x8192 .i32) (arg2 arg4 : Memref sig .tc .vmem S64x8192 .f32)
    (b : arg1.view.ty.Contents (Elt F)) (f : arg2.view.ty.Contents (Elt F)) (k : ℕ) (_ : Unit) : sProp 𝕄 :=
  iprop((arg1.view.loc (T d) ↦[arg1.view.set]{fullShare} b) ∗ (arg2.view.loc (T d) ↦[arg2.view.set]{fullShare} f)
    ∗ ∃ h : Buf (Elt F) (arg4.view.loc (T d)),
        ⌜∀ y : S64x8192.Idx, (y 1).val < 256 * k → arg4.view.read (Elt F) h y = noisy2 (F := F) (arg1.view.read (Elt F) b) (arg2.view.read (Elt F) f) y⌝
      ∗ (arg4.view.loc (T d) ↦[arg4.view.set]{fullShare} h))

theorem trip2 (d : Dev nD) (i : grid2.Coords) (arg1 : Memref sig .tc .vmem S64x8192 .i32) (harg1 : arg1.IsWhole)
    (arg2 : Memref sig .tc .vmem S64x8192 .f32) (harg2 : arg2.IsWhole) (arg3 : Memref sig .tc .hbm S4096x8192 .f32) (harg3 : arg3.IsWhole)
    (arg4 : Memref sig .tc .vmem S64x8192 .f32) (harg4 : arg4.IsWhole)
    (b : arg1.view.ty.Contents (Elt F)) (f : arg2.view.ty.Contents (Elt F)) (t : Fin k2_t1_loop.trips) (a : Unit) :
    Inv2 (F := F) d arg1 arg2 arg4 b f t.val a
      ⊢ wp frame (wpE (defs₀ (F := F)) 𝒱₀ (T d) none) Set.univ (k2_t1_body (F := F) i arg1 harg1 arg2 harg2 arg3 harg3 arg4 harg4 t a)
          (Inv2 (F := F) d arg1 arg2 arg4 b f (t.val + 1)) := by
  unfold k2_t1_body Inv2
  simp only [wp_bind, Prog.lift, wp_pure]
  iintro ⟨H1, H2, %h, %hh, H4⟩
  iapply (wp_load_rect 𝒱₀ (T d) none Set.univ (m := arg1) (r := cols (k2_off1 t) (k2_off1_inb t)) (by exact access_sub _ _)) $$ H1
  iintro H1
  rw [wp_ret]; imodintro
  iapply (wp_load_rect 𝒱₀ (T d) none Set.univ (m := arg2) (r := cols (k2_off1 t) (k2_off1_inb t)) (by exact access_sub _ _)) $$ H2
  iintro H2
  rw [wp_ret]; imodintro
  iapply (wp_load_rect 𝒱₀ (T d) none Set.univ (m := arg4) (r := cols (k2_off1 t) (k2_off1_inb t)) (by exact access_sub _ _)) $$ H4
  iintro H4
  rw [wp_ret]; imodintro
  iapply (wp_store 𝒱₀ (T d) none Set.univ (m := arg4) (r := cols (k2_off1 t) (k2_off1_inb t)) (by exact access_sub _ _)) $$ H4
  iintro H4
  rw [wp_ret]; imodintro
  imodintro
  isplitl [H1]; · iexact H1
  isplitl [H2]; · iexact H2
  iexists _
  isplitr
  swap; · iexact H4
  ipureintro
  refine stored_cols (F := F) (k2_off1_eq t) arg4 _ _ (fun x => ?_) h hh
  rw [k2_value_at, shapeCast_self, shapeCast_self]
  rfl

theorem trips2 : k2_t1_loop.trips = 32 := by decide

/-- The second call's body leaves the one-hot of the noisy logits in the result's block. -/
theorem body2 (d : Dev nD) (i : grid2.Coords) (arg1 : Memref sig .tc .vmem S64x8192 .i32) (harg1 : arg1.IsWhole)
    (arg2 : Memref sig .tc .vmem S64x8192 .f32) (harg2 : arg2.IsWhole) (arg3 : Memref sig .tc .hbm S4096x8192 .f32) (harg3 : arg3.IsWhole)
    (arg4 : Memref sig .tc .vmem S64x8192 .f32) (harg4 : arg4.IsWhole) (B : S64x8192.Idx → BitVec 32) (X Y : S64x8192.Idx → F .f32) :
    iprop(owns (Val := Elt F) (T d) arg1 fullShare B ∗ owns (T d) arg2 fullShare X ∗ owns (T d) arg4 fullShare Y)
      ⊢ (wp frame (wpE (defs₀ (F := F)) 𝒱₀ (T d) none) Set.univ (cc2__tc_from_bits_body (F := F) i arg1 harg1 arg2 harg2 arg3 harg3 arg4 harg4) fun _ =>
          iprop(owns (Val := Elt F) (T d) arg1 fullShare B ∗ owns (T d) arg2 fullShare X ∗ owns (T d) arg4 fullShare (k2_pay2 (noisy2 B X))) : sProp 𝕄) := by
  rw [cc2__tc_from_bits_body_eq_skeleton]
  unfold cc2__tc_from_bits_body_skel owns
  simp only [wp_bind, Prog.lift, wp_pure]
  iintro ⟨⟨%b, %hb, H1⟩, ⟨%f, %hf, H2⟩, ⟨%g, %hg, H4⟩⟩
  iapply (Scf.wp_for frame (wpE (defs₀ (F := F)) 𝒱₀ (T d) none) Set.univ _ _ _ k2_t1_ok _ _ (Inv2 (F := F) d arg1 arg2 arg4 b f)
    (fun k a => trip2 d i arg1 harg1 arg2 harg2 arg3 harg3 arg4 harg4 b f k a))
  isplitl [H1 H2 H4]
  · unfold Inv2
    isplitl [H1]; · iexact H1
    isplitl [H2]; · iexact H2
    iexists g; isplitr
    swap; · iexact H4
    ipureintro; intro y h; exact absurd h (Nat.not_lt_zero _)
  iintro %a HI
  unfold Inv2
  icases HI with ⟨H1, H2, %h, %hh, H4⟩
  iapply (wp_load_rect 𝒱₀ (T d) none Set.univ (m := arg4) (r := whole2) (by exact access_sub _ _)) $$ H4
  iintro H4
  rw [wp_ret]; imodintro
  iapply (wp_load_rect 𝒱₀ (T d) none Set.univ (m := arg4) (r := whole2) (by exact access_sub _ _)) $$ H4
  iintro H4
  rw [wp_ret]; imodintro
  iapply (wp_store 𝒱₀ (T d) none Set.univ (m := arg4) (r := whole2) (by exact access_sub _ _)) $$ H4
  iintro H4
  rw [wp_ret]; imodintro
  imodintro
  isplitl [H1]
  · iexists b; isplitr; · ipureintro; exact hb
    iexact H1
  isplitl [H2]
  · iexists f; isplitr; · ipureintro; exact hf
    iexact H2
  iexists _
  isplitr
  swap; · iexact H4
  ipureintro
  have hz : arg4.view.read (Elt F) h = noisy2 B X := by
    rw [← hf, ← hb]
    funext y
    have hy : (y 1).val < 8192 := (y 1).isLt
    exact hh y (by show (y 1).val < 256 * k2_t1_loop.trips; rw [trips2]; omega)
  rw [read_write_whole2, read_whole2, hz]

end Cert.Proof.Run
-- ==== Proof.Calls.lean ====
module

public import proofs.«01_k».proof.Proof.Body
public import proofs.«01_k».proof.Proof.Gen.KernelIdeal.Launch
public import Idealize.ShloMosaic.Lib.Pipeline.Regions
public import Idealize.ShloMosaic.Lib.Pipeline.RegionArrays

@[expose] public section

/-! # The two TensorCore calls

  The first call writes the rows from 1216 on, block by block; the second writes the rows below 1216
  of an array that starts as a copy of the first's result. What each leaves is stated element by
  element, over any logits `X` and any first contents `Y` of the first call's result. -/

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)
open Cert.Hash

variable {F : FTy → Type} [FloatOps F]

local notation "𝕄" => MT nD τ sig (HIx 1) (Elt F) ℕ UU ℕ

/-! ## Blocks of 64 rows -/

/-- The position in the array of an element of the block of rows from `64 * g` on. -/
def at64 (g : ℕ) (y : S64x8192.Idx) : S4096x8192.Idx := fun
  | ⟨0, _⟩ => ⟨(64 * g + (y 0).val) % 4096, Nat.mod_lt _ (by decide)⟩
  | ⟨1, _⟩ => y 1
  | ⟨_ + 2, h⟩ => absurd h (Nat.not_lt.2 (Nat.le_add_left _ _))

/-- The same among the 1216 rows of random words. -/
def word64 (g : ℕ) (y : S64x8192.Idx) : S1216x8192.Idx := fun
  | ⟨0, _⟩ => ⟨(64 * g + (y 0).val) % 1216, Nat.mod_lt _ (by decide)⟩
  | ⟨1, _⟩ => y 1
  | ⟨_ + 2, h⟩ => absurd h (Nat.not_lt.2 (Nat.le_add_left _ _))

/-- The place of an element of the array in its block. -/
def in64 (i : S4096x8192.Idx) : S64x8192.Idx := fun
  | ⟨0, _⟩ => ⟨(i 0).val % 64, Nat.mod_lt _ (by decide)⟩
  | ⟨1, _⟩ => i 1
  | ⟨_ + 2, h⟩ => absurd h (Nat.not_lt.2 (Nat.le_add_left _ _))

theorem at64_div {g : ℕ} (hg : g < 64) (y : S64x8192.Idx) : (at64 g y 0).val / 64 = g := by
  have hy : (y 0).val < 64 := (y 0).isLt
  show (64 * g + (y 0).val) % 4096 / 64 = g
  omega

theorem at64_row {g : ℕ} (hg : g < 64) (y : S64x8192.Idx) : (at64 g y 0).val = 64 * g + (y 0).val := by
  have hy : (y 0).val < 64 := (y 0).isLt
  show (64 * g + (y 0).val) % 4096 = _
  omega

theorem in64_at64 {g : ℕ} (hg : g < 64) (y : S64x8192.Idx) : in64 (at64 g y) = y := by
  have hy : (y 0).val < 64 := (y 0).isLt
  funext a
  match a with
  | ⟨0, _⟩ => refine Fin.ext ?_; show (64 * g + (y 0).val) % 4096 % 64 = (y 0).val; omega
  | ⟨1, _⟩ => rfl

theorem at64_in64 (i : S4096x8192.Idx) : at64 ((i 0).val / 64) (in64 i) = i := by
  have hi : (i 0).val < 4096 := (i 0).isLt
  funext a
  match a with
  | ⟨0, _⟩ => refine Fin.ext ?_; show (64 * ((i 0).val / 64) + (i 0).val % 64) % 4096 = (i 0).val; omega
  | ⟨1, _⟩ => rfl

/-! ## What the calls leave -/

variable (X Y : Dev nD → S4096x8192.Idx → F .f32)

/-- The block of the logits at rows `64 * g` on. -/
abbrev blkX (d : Dev nD) (g : ℕ) : S64x8192.Idx → F .f32 := fun y => X d (at64 g y)
/-- The block of the random words at rows `64 * g` on. -/
abbrev blkB (g : ℕ) : S64x8192.Idx → BitVec 32 := fun y => bitsAt (word64 g y)

/-- The first call's block. -/
def out1 (d : Dev nD) (g : ℕ) : S64x8192.Idx → F .f32 := k1_pay3 (noisy1 g (blkX X d g))
/-- The second call's block. -/
def out2 (d : Dev nD) (g : ℕ) : S64x8192.Idx → F .f32 := k2_pay2 (noisy2 (blkB g) (blkX X d g))

/-- The first call's result. -/
def final1 (d : Dev nD) : S4096x8192.Idx → F .f32 := fun i =>
  if 1216 ≤ (i 0).val then out1 X d ((i 0).val / 64) (in64 i) else Y d i
/-- The second call's result. -/
def final2 (d : Dev nD) : S4096x8192.Idx → F .f32 := fun i =>
  if (i 0).val < 1216 then out2 X d ((i 0).val / 64) (in64 i) else final1 X Y d i

/-! ## The calls' proof data -/

variable (b : ℕ)

/-- What the waits of the TensorCore before the calls recorded: nothing above the bound. -/
def low (d : Dev nD) : Set (SemLoc sig × HIx 1) := {p | (K (F := F)).lev (T d, p.1) p.2 ≤ b}

def dat1 (d : Dev nD) : Dat τ (Elt F) (HIx 1) ℕ UU ℕ cfg1 d where
  A w := match w with | ⟨0, _⟩ => X d | ⟨1, _⟩ => Y d
  after w t := match w with | ⟨0, _⟩ => blkX X d (t.val + 19) | ⟨1, _⟩ => out1 X d (t.val + 19)
  Φ _ := Pipeline.scopedRest spec1 d
  q _ := fullShare
  owed _ := 0
  recorded _ := low (F := F) b d

def dat2 (d : Dev nD) : Dat τ (Elt F) (HIx 1) ℕ UU ℕ cfg2 d where
  A w := match w with | ⟨0, _⟩ => bits (F := F) d | ⟨1, _⟩ => X d | ⟨2, _⟩ => final1 X Y d
  after w t := match w with | ⟨0, _⟩ => blkB t.val | ⟨1, _⟩ => blkX X d t.val | ⟨2, _⟩ => out2 X d t.val
  Φ _ := Pipeline.scopedRest spec2 d
  q _ := fullShare
  owed _ := 0
  recorded _ := low (F := F) b d

def dats (p : Fin 2) (d : Dev nD) : Dat τ (Elt F) (HIx 1) ℕ UU ℕ (cfgs p) d :=
  match p with | ⟨0, _⟩ => dat1 X Y b d | ⟨1, _⟩ => dat2 X Y b d

/-! ## Which rows a block covers -/

theorem coord1 : ∀ t : Fin cfg1.N, (cfg1.grid.coords t 0).val = t.val := by decide +kernel
theorem coord2 : ∀ t : Fin cfg2.N, (cfg2.grid.coords t 0).val = t.val := by decide +kernel
theorem idx1_0 : ∀ t : Fin grid1.N, win1_0.index t = ![t.val + 19, 0] := by decide +kernel
theorem idx1_1 : ∀ t : Fin grid1.N, win1_1.index t = ![t.val + 19, 0] := by decide +kernel
theorem idx2_0 : ∀ t : Fin grid2.N, win2_0.index t = ![t.val, 0] := by decide +kernel
theorem idx2_1 : ∀ t : Fin grid2.N, win2_1.index t = ![t.val, 0] := by decide +kernel
theorem idx2_2 : ∀ t : Fin grid2.N, win2_2.index t = ![t.val, 0] := by decide +kernel

theorem emb1_0 (t : Fin cfg1.N) (y : S64x8192.Idx) : ((cfg1.win 0).blk t).view.emb y = at64 (t.val + 19) y := by
  have ht : t.val < 45 := t.isLt
  have hy : (y 0).val < 64 := (y 0).isLt
  have h (a : Fin 2) := Pipeline.Window.rect_emb_val win1_0 t y a
  funext a
  match a with
  | ⟨0, _⟩ =>
    refine Fin.ext ((h 0).trans ?_)
    rw [idx1_0]
    show (t.val + 19) * 64 + (y 0).val = (64 * (t.val + 19) + (y 0).val) % 4096
    omega
  | ⟨1, _⟩ =>
    refine Fin.ext ((h 1).trans ?_)
    rw [idx1_0]
    show 0 * 8192 + (y 1).val = (y 1).val
    omega

theorem emb1_1 (t : Fin cfg1.N) (y : S64x8192.Idx) : ((cfg1.win 1).blk t).view.emb y = at64 (t.val + 19) y := by
  have ht : t.val < 45 := t.isLt
  have hy : (y 0).val < 64 := (y 0).isLt
  have h (a : Fin 2) := Pipeline.Window.rect_emb_val win1_1 t y a
  funext a
  match a with
  | ⟨0, _⟩ =>
    refine Fin.ext ((h 0).trans ?_)
    rw [idx1_1]
    show (t.val + 19) * 64 + (y 0).val = (64 * (t.val + 19) + (y 0).val) % 4096
    omega
  | ⟨1, _⟩ =>
    refine Fin.ext ((h 1).trans ?_)
    rw [idx1_1]
    show 0 * 8192 + (y 1).val = (y 1).val
    omega

theorem emb2_0 (t : Fin cfg2.N) (y : S64x8192.Idx) : ((cfg2.win 0).blk t).view.emb y = word64 t.val y := by
  have ht : t.val < 19 := t.isLt
  have hy : (y 0).val < 64 := (y 0).isLt
  have h (a : Fin 2) := Pipeline.Window.rect_emb_val win2_0 t y a
  funext a
  match a with
  | ⟨0, _⟩ =>
    refine Fin.ext ((h 0).trans ?_)
    rw [idx2_0]
    show t.val * 64 + (y 0).val = (64 * t.val + (y 0).val) % 1216
    omega
  | ⟨1, _⟩ =>
    refine Fin.ext ((h 1).trans ?_)
    rw [idx2_0]
    show 0 * 8192 + (y 1).val = (y 1).val
    omega

theorem emb2_1 (t : Fin cfg2.N) (y : S64x8192.Idx) : ((cfg2.win 1).blk t).view.emb y = at64 t.val y := by
  have ht : t.val < 19 := t.isLt
  have hy : (y 0).val < 64 := (y 0).isLt
  have h (a : Fin 2) := Pipeline.Window.rect_emb_val win2_1 t y a
  funext a
  match a with
  | ⟨0, _⟩ =>
    refine Fin.ext ((h 0).trans ?_)
    rw [idx2_1]
    show t.val * 64 + (y 0).val = (64 * t.val + (y 0).val) % 4096
    omega
  | ⟨1, _⟩ =>
    refine Fin.ext ((h 1).trans ?_)
    rw [idx2_1]
    show 0 * 8192 + (y 1).val = (y 1).val
    omega

theorem emb2_2 (t : Fin cfg2.N) (y : S64x8192.Idx) : ((cfg2.win 2).blk t).view.emb y = at64 t.val y := by
  have ht : t.val < 19 := t.isLt
  have hy : (y 0).val < 64 := (y 0).isLt
  have h (a : Fin 2) := Pipeline.Window.rect_emb_val win2_2 t y a
  funext a
  match a with
  | ⟨0, _⟩ =>
    refine Fin.ext ((h 0).trans ?_)
    rw [idx2_2]
    show t.val * 64 + (y 0).val = (64 * t.val + (y 0).val) % 4096
    omega
  | ⟨1, _⟩ =>
    refine Fin.ext ((h 1).trans ?_)
    rw [idx2_2]
    show 0 * 8192 + (y 1).val = (y 1).val
    omega

/-! ## What a block holds when the body runs -/

theorem before1_0 (d : Dev nD) (t : Fin cfg1.N) (z : S64x8192.Idx → F .f32) : (dat1 X Y b d).before 0 t z = blkX X d (t.val + 19) := by
  unfold Dat.before
  rw [if_pos (fetch1_0 t)]
  show (fun y => X d (((cfg1.win 0).blk t).view.emb y)) = _
  funext y
  rw [emb1_0]

theorem before2_0 (d : Dev nD) (t : Fin cfg2.N) (z : S64x8192.Idx → BitVec 32) : (dat2 X Y b d).before 0 t z = blkB t.val := by
  unfold Dat.before
  rw [if_pos (fetch2_0 t)]
  show (fun y => bitsAt (((cfg2.win 0).blk t).view.emb y)) = _
  funext y
  rw [emb2_0]

theorem before2_1 (d : Dev nD) (t : Fin cfg2.N) (z : S64x8192.Idx → F .f32) : (dat2 X Y b d).before 1 t z = blkX X d t.val := by
  unfold Dat.before
  rw [if_pos (fetch2_1 t)]
  show (fun y => X d (((cfg2.win 1).blk t).view.emb y)) = _
  funext y
  rw [emb2_1]

/-! ## The bodies, as the calls run them -/

theorem obl1 (d : Dev nD) : BodyObligation (dat1 X Y b d) (defs₀ (F := F)) 𝒱₀ none Set.univ := fun t => by
  rw [bigSep_W1, bigSep_W1]
  iintro ⟨HΦ, HO, ⟨%z0, H0⟩, ⟨%z1, H1⟩⟩
  rw [before1_0, show (dat1 X Y b d).Φ t.succ = (dat1 X Y b d).Φ t.castSucc from rfl]
  have h := body1 (F := F) d (cfg1.grid.coords t) (st1_0 t) (hstage1_0 ((cfg1.slots t 0).cast nbuf1_0)) (st1_1 t) (hstage1_1 ((cfg1.slots t 1).cast nbuf1_1))
    (blkX X d (t.val + 19)) ((dat1 X Y b d).before 1 t z1)
  rw [coord1] at h
  iapply wp_wand_r
  isplitl [H0 H1]
  · iapply h
    isplitl [H0]; · iexact H0
    iexact H1
  iintro %_ ⟨H0, H1⟩
  isplitl [HΦ]; · iexact HΦ
  isplitl [HO]; · iexact HO
  isplitl [H0]; · iexact H0
  iexact H1

theorem obl2 (d : Dev nD) : BodyObligation (dat2 X Y b d) (defs₀ (F := F)) 𝒱₀ none Set.univ := fun t => by
  rw [bigSep_W2, bigSep_W2]
  iintro ⟨HΦ, HO, ⟨%z0, H0⟩, ⟨%z1, H1⟩, ⟨%z2, H2⟩⟩
  rw [before2_0, before2_1, show (dat2 X Y b d).Φ t.succ = (dat2 X Y b d).Φ t.castSucc from rfl]
  have h := body2 (F := F) d (cfg2.grid.coords t) (st2_0 t) (hstage2_0 ((cfg2.slots t 0).cast nbuf2_0)) (st2_1 t) (hstage2_1 ((cfg2.slots t 1).cast nbuf2_1))
    (Memref.whole main_v2) (Memref.isWhole_whole _) (st2_2 t) (hstage2_2 ((cfg2.slots t 2).cast nbuf2_2))
    (blkB t.val) (blkX X d t.val) ((dat2 X Y b d).before 2 t z2)
  iapply wp_wand_r
  isplitl [H0 H1 H2]
  · iapply h
    isplitl [H0]; · iexact H0
    isplitl [H1]; · iexact H1
    iexact H2
  iintro %_ ⟨H0, H1, H2⟩
  isplitl [HΦ]; · iexact HΦ
  isplitl [HO]; · iexact HO
  isplitl [H0]; · iexact H0
  isplitl [H1]; · iexact H1
  iexact H2

/-! ## What the arrays end at -/

theorem end1 (d : Dev nD) : (dat1 X Y b d).arrAt 1 cfg1.N = final1 X Y d := by
  funext i
  rw [(dat1 X Y b d).arrAt_eq_piecewise 1 (fun i : S4096x8192.Idx => out1 X d ((i 0).val / 64) (in64 i)) (fun t _ => by
    have ht : t.val < 45 := t.isLt
    show out1 X d (t.val + 19) = fun y => out1 X d ((((cfg1.win 1).blk t).view.emb y 0).val / 64) (in64 (((cfg1.win 1).blk t).view.emb y))
    funext y
    rw [emb1_1, at64_div (by omega), in64_at64 (by omega)])]
  have hi : ((i : S4096x8192.Idx) 0).val < 4096 := ((i : S4096x8192.Idx) 0).isLt
  unfold final1
  by_cases h : 1216 ≤ ((i : S4096x8192.Idx) 0).val
  · rw [if_pos h, if_pos]
    have hn : ((i : S4096x8192.Idx) 0).val / 64 - 19 < cfg1.N := show _ < 45 by omega
    refine ⟨⟨_, hn⟩, flush1_1 _, ?_⟩
    have e := emb1_1 ⟨_, hn⟩ (in64 i)
    rw [show ((i : S4096x8192.Idx) 0).val / 64 - 19 + 19 = ((i : S4096x8192.Idx) 0).val / 64 by omega, at64_in64] at e
    exact Finset.mem_map.mpr ⟨in64 i, Finset.mem_univ _, e⟩
  · rw [if_neg h, if_neg]
    · rfl
    rintro ⟨t, -, hm⟩
    have ht : t.val < 45 := t.isLt
    obtain ⟨y, -, rfl⟩ := Finset.mem_map.mp hm
    rw [emb1_1] at h
    exact h (by rw [at64_row (by omega)]; omega)

theorem end2 (d : Dev nD) : (dat2 X Y b d).arrAt 2 cfg2.N = final2 X Y d := by
  funext i
  rw [(dat2 X Y b d).arrAt_eq_piecewise 2 (fun i : S4096x8192.Idx => out2 X d ((i 0).val / 64) (in64 i)) (fun t _ => by
    have ht : t.val < 19 := t.isLt
    show out2 X d t.val = fun y => out2 X d ((((cfg2.win 2).blk t).view.emb y 0).val / 64) (in64 (((cfg2.win 2).blk t).view.emb y))
    funext y
    rw [emb2_2, at64_div (by omega), in64_at64 (by omega)])]
  have hi : ((i : S4096x8192.Idx) 0).val < 4096 := ((i : S4096x8192.Idx) 0).isLt
  unfold final2
  by_cases h : ((i : S4096x8192.Idx) 0).val < 1216
  · rw [if_pos h, if_pos]
    have hn : ((i : S4096x8192.Idx) 0).val / 64 < cfg2.N := show _ < 19 by omega
    refine ⟨⟨_, hn⟩, flush2_2 _, ?_⟩
    have e := emb2_2 ⟨_, hn⟩ (in64 i)
    rw [at64_in64] at e
    exact Finset.mem_map.mpr ⟨in64 i, Finset.mem_univ _, e⟩
  · rw [if_neg h, if_neg]
    · rfl
    rintro ⟨t, -, hm⟩
    have ht : t.val < 19 := t.isLt
    obtain ⟨y, -, rfl⟩ := Finset.mem_map.mp hm
    rw [emb2_2] at h
    have hy : (y 0).val < 64 := (y 0).isLt
    exact h (by rw [at64_row (by omega)]; omega)

/-! ## The calls as segments of the program -/

/-- The prefetched tables' admissible contents: no table. -/
abbrev adm : (p : Fin 2) → (pcfgs (F := F) p).Adm := fun p => (cfgs p).toPCfg_adm

/-- What the TensorCore has recorded and owes between the calls. -/
def settled (d : Dev nD) : sProp 𝕄 := iprop(∃ W, ⌜(K (F := F)).WBelow (SparseCore.T d) W b⌝ ∗ owes (SparseCore.T d) (0 : CellTallies nD τ sig (HIx 1)) W)

/-- A TensorCore buffer held whole. -/
abbrev has (d : Dev nD) (r : Ref sig .tc) (f : Buf (Elt F) ((SparseCore.T d : Thread nD τ).loc r)) : sProp 𝕄 := (SparseCore.T d : Thread nD τ).loc r ↦{fullShare} f

set_option backward.isDefEq.respectTransparency.types false in
theorem arrays1 (d : Dev nD) (G : (w : Fin cfg1.W) → Buf (Elt F) ((cfg1.win w).arr.view.loc (SparseCore.T d : Thread nD τ))) :
    ((dats X Y b 0 d).arrays G : sProp 𝕄) = iprop(has d main_v0 (G 0) ∗ has d main_v2 (G 1)) := by
  rw [Pipeline.arrays_eq (Pipeline.pin (pcfgs (F := F)) adm) (dats X Y b) 0 d arr_whole1 ((dat1 X Y b d).share_full fun _ => rfl) G]
  exact bigSep_W1 _

set_option backward.isDefEq.respectTransparency.types false in
theorem arrays2 (d : Dev nD) (G : (w : Fin cfg2.W) → Buf (Elt F) ((cfg2.win w).arr.view.loc (SparseCore.T d : Thread nD τ))) :
    ((dats X Y b 1 d).arrays G : sProp 𝕄) = iprop(has d main_v1 (G 0) ∗ has d main_v0 (G 1) ∗ has d main_v3 (G 2)) := by
  rw [Pipeline.arrays_eq (Pipeline.pin (pcfgs (F := F)) adm) (dats X Y b) 1 d arr_whole2 ((dat2 X Y b d).share_full fun _ => rfl) G]
  exact bigSep_W2 _

theorem settle_in (d : Dev nD) (p : Fin 2) : settled (F := F) b d ⊢ ((dats X Y b p d).owesAt none 0 : sProp 𝕄) := by
  unfold settled
  iintro ⟨%W, %hW, HO⟩
  iexists W
  isplitr
  swap; · match p with
    | 0 => iexact HO
    | 1 => iexact HO
  ipureintro
  match p with
  | 0 => exact fun x hx => Or.inl (hW x hx)
  | 1 => exact fun x hx => Or.inl (hW x hx)

theorem settle_out (d : Dev nD) (p : Fin 2) : ((dats X Y b p d).owesAt none (Fin.last _) : sProp 𝕄) ⊢ settled (F := F) b d := by
  unfold settled
  iintro ⟨%W, %hW, HO⟩
  iexists W
  isplitr
  swap; · match p with
    | 0 => iexact HO
    | 1 => iexact HO
  ipureintro
  intro x hx
  match p with
  | 0 =>
    rcases hW hx with h | ⟨w, s, h⟩
    · exact h
    · rw [h]; exact Nat.zero_le _
  | 1 =>
    rcases hW hx with h | ⟨w, s, h⟩
    · exact h
    · rw [h]; exact Nat.zero_le _

set_option backward.isDefEq.respectTransparency.types false in
/-- The first TensorCore call. -/
def reg1 : Pipeline.RegionSeg (pcfgs (F := F)) adm (dats X Y b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (obl1 X Y b d).loose
  hwaits := Pipeline.hwaits_of_owed_zero _ _ _ _ (K (F := F)).L (K (F := F)).lev 0 fun _ _ => rfl
  pre d := iprop(has d main_v0 (X d) ∗ has d main_v2 (Y d) ∗ settled b d)
  post d := iprop(has d main_v0 (X d) ∗ has d main_v2 (final1 X Y d) ∗ settled b d)
  X _ := iprop(emp)
  Y _ := iprop(emp)
  Z _ := iprop(emp)
  hentry d := by
    rw [Pipeline.ownSems0_none, Pipeline.prefHeld_of_none _ rfl]
    iintro ⟨⟨H0, H2, HO⟩, -, -⟩
    imodintro
    isplitl [H0 H2]
    · iapply (Entails.of_eq (arrays1 X Y b d _).symm)
      isplitl [H0]; · iexact H0
      iexact H2
    isplitr; · iempintro
    isplitl [HO]; · iapply (settle_in X Y b d 0); iexact HO
    isplitr <;> iempintro
  hin d := by
    rw [show (dats X Y b 0 d).Φ 0 = Pipeline.scopedRest spec1 d from rfl]
    iintro ⟨-, -, Hr⟩
    iexact Hr
  hout d := by
    rw [Pipeline.ownSems0_none, show (dats X Y b 0 d).Φ (Fin.last _) = Pipeline.scopedRest spec1 d from rfl]
    iintro Hr
    isplitr; · iempintro
    isplitr; · iempintro
    iexact Hr
  hexit d := by
    iintro ⟨Ha, HO, -, -⟩
    imodintro
    ihave Ha := (Entails.of_eq (arrays1 X Y b d ((dats X Y b 0 d).arrAt · cfg1.N))) $$ Ha
    icases Ha with ⟨H0, H2⟩
    isplitl [H0]
    · rw [← show (dat1 X Y b d).arrAt 0 cfg1.N = X d from (dat1 X Y b d).arrAt_in 0 rfl _]; iexact H0
    isplitl [H2]
    · rw [← end1 X Y b d]; iexact H2
    iapply (settle_out X Y b d 0); iexact HO

set_option backward.isDefEq.respectTransparency.types false in
/-- The second TensorCore call. -/
def reg2 : Pipeline.RegionSeg (pcfgs (F := F)) adm (dats X Y b) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody d := (obl2 X Y b d).loose
  hwaits := Pipeline.hwaits_of_owed_zero _ _ _ _ (K (F := F)).L (K (F := F)).lev 1 fun _ _ => rfl
  pre d := iprop(has d main_v1 (bits d) ∗ has d main_v0 (X d) ∗ has d main_v3 (final1 X Y d) ∗ settled b d)
  post d := iprop(has d main_v1 (bits d) ∗ has d main_v0 (X d) ∗ has d main_v3 (final2 X Y d) ∗ settled b d)
  X _ := iprop(emp)
  Y _ := iprop(emp)
  Z _ := iprop(emp)
  hentry d := by
    rw [Pipeline.ownSems0_none, Pipeline.prefHeld_of_none _ rfl]
    iintro ⟨⟨H1, H0, H3, HO⟩, -, -⟩
    imodintro
    isplitl [H0 H1 H3]
    · iapply (Entails.of_eq (arrays2 X Y b d _).symm)
      isplitl [H1]; · iexact H1
      isplitl [H0]; · iexact H0
      iexact H3
    isplitr; · iempintro
    isplitl [HO]; · iapply (settle_in X Y b d 1); iexact HO
    isplitr <;> iempintro
  hin d := by
    rw [show (dats X Y b 1 d).Φ 0 = Pipeline.scopedRest spec2 d from rfl]
    iintro ⟨-, -, Hr⟩
    iexact Hr
  hout d := by
    rw [Pipeline.ownSems0_none, show (dats X Y b 1 d).Φ (Fin.last _) = Pipeline.scopedRest spec2 d from rfl]
    iintro Hr
    isplitr; · iempintro
    isplitr; · iempintro
    iexact Hr
  hexit d := by
    iintro ⟨Ha, HO, -, -⟩
    imodintro
    ihave Ha := (Entails.of_eq (arrays2 X Y b d ((dats X Y b 1 d).arrAt · cfg2.N))) $$ Ha
    icases Ha with ⟨H1, H0, H3⟩
    isplitl [H1]
    · rw [← show (dat2 X Y b d).arrAt 0 cfg2.N = bits d from (dat2 X Y b d).arrAt_in 0 rfl _]; iexact H1
    isplitl [H0]
    · rw [← show (dat2 X Y b d).arrAt 1 cfg2.N = X d from (dat2 X Y b d).arrAt_in 1 rfl _]; iexact H0
    isplitl [H3]
    · rw [← end2 X Y b d]; iexact H3
    iapply (settle_out X Y b d 1); iexact HO

end Cert.Proof.Run
-- ==== Proof.MainRun.lean ====
module

public import proofs.«01_k».proof.Proof.Tasks
public import proofs.«01_k».proof.Proof.Calls

@[expose] public section

/-! # The program's run

  The TensorCore's @main: the logits reshaped to a matrix, the SparseCore call, the first TensorCore
  call, its result copied, the second TensorCore call over the copy, and the result reshaped back.
  The argument is left as it was, and the result is what the two calls' blocks make of it. -/

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What a buffer holds at the start. -/
abbrev ini (d : Dev nD) (r : Ref sig .tc) : Buf (Elt F) ((SparseCore.T d : Thread nD τ).loc r) := m ((SparseCore.T d : Thread nD τ).loc r)

/-- The logits as a matrix. -/
def logits (d : Dev nD) : S4096x8192.Idx → F .f32 := shapeCast S4096x8192 (ini m d main_arg0) shapeCasts_S128x32x8192_S4096x8192
/-- What the first call's result starts with. -/
def start2 (d : Dev nD) : S4096x8192.Idx → F .f32 := ini m d main_v2
/-- The program's result. -/
def result (d : Dev nD) : S128x32x8192.Idx → F .f32 :=
  shapeCast S128x32x8192 (final2 (logits m) (start2 m) d) shapeCasts_S4096x8192_S128x32x8192

/-! ## The host operations -/

include m in
/-- An operation over two buffers, run holding both. -/
theorem wp_two (d : Dev nD) (op : HloOp τ sig (Elt F)) (x y : Ref sig .tc) (hxy : x ≠ y)
    (hb : op.bufs = {Proc.devRef .tc x, Proc.devRef .tc y}) (hf : op.fresh = ∅)
    (f : Buf (Elt F) ((SparseCore.T d : Thread nD τ).loc x)) (g g' : Buf (Elt F) ((SparseCore.T d : Thread nD τ).loc y))
    (hx : ∀ W : Valuation τ sig (Elt F), op.result W (Proc.devRef .tc x) = W (Proc.devRef .tc x))
    (hy : ∀ W : Valuation τ sig (Elt F), W (Proc.devRef .tc x) = f → op.result W (Proc.devRef .tc y) = g') :
    iprop(boundary (SparseCore.T d) ∗ has d x f ∗ has d y g)
      ⊢ (wp frame (wpE ((K (F := F)).defs (D (F := F))) 𝒱 (SparseCore.T d) none) Set.univ (hlo rfl op fun _ => .ret PUnit.unit)
          fun _ => iprop(boundary (SparseCore.T d) ∗ has d x f ∗ has d y g') : sProp 𝕄) := by
  classical
  have hne : (Proc.devRef .tc x : DevRef τ sig) ≠ Proc.devRef .tc y := StableHlo.devRef_ne_of_ne hxy
  let W : Valuation τ sig (Elt F) := Function.update (Function.update (fun b => m (d, b)) (Proc.devRef .tc x) f) (Proc.devRef .tc y) g
  have hWx : W (Proc.devRef .tc x) = f := by
    show Function.update _ _ _ _ = _
    rw [Function.update_of_ne hne, Function.update_self]
  have hWy : W (Proc.devRef .tc y) = g := Function.update_self _ _ _
  have hbig (V : Valuation τ sig (Elt F)) : (bigSep op.bufs (fun b => ((SparseCore.T d : Thread nD τ).1, b) ↦{fullShare} V b) : sProp 𝕄)
      = iprop(has d x (V (Proc.devRef .tc x)) ∗ has d y (V (Proc.devRef .tc y))) := by
    rw [hb, SparseCore.bigSep_insert' (by rwa [Finset.mem_singleton]), bigSep_singleton]
  have h := wp_hlo (defs := (K (F := F)).defs (D (F := F))) 𝒱 (SparseCore.T d) none (Set.univ : Set ℕ) (Γ := .empty) (hp := rfl) (op := op) (k := fun _ => .ret PUnit.unit) (q := fun _ => fullShare) (F := W)
    (fun _ _ => rfl) hf (Q := fun _ => iprop(boundary (SparseCore.T d) ∗ has d x f ∗ has d y g'))
  rw [hbig W, hbig (op.result W), hx W, hy W hWx, hWx, hWy] at h
  iintro H
  iapply h $$ H
  iintro H
  rw [wp_ret]; imodintro
  iexact H

/-! ## The TensorCore calls inside the program -/

variable (b : ℕ) (X Y : Dev nD → S4096x8192.Idx → F .f32)

/-- The rounds of a call's staging buffers, before it runs. -/
abbrev fresh (p : Fin 2) (d : Dev nD) : sProp 𝕄 := iprop(Pipeline.cellsGhost cfgs EP p d ∗ Pipeline.toksInit cfgs EP p d)

set_option backward.isDefEq.respectTransparency.types false in
theorem wp_call [∀ e, Nonempty (Elt F e)] (d : Dev nD) (p : Fin 2) (R : Pipeline.RegionSeg (pcfgs (F := F)) adm (dats X Y b) none defs₀ 𝒱₀ (K (F := F)).L (K (F := F)).lev p) :
    iprop(levAts (K (F := F)).L (K (F := F)).lev ∗ fresh p d ∗ boundary (SparseCore.T d) ∗ R.pre d)
      ⊢ (wp frame (wpE ((K (F := F)).defs (D (F := F))) 𝒱 (SparseCore.T d) none) Set.univ (Prog.lift (.customCall (SparseCore.inner (Pipeline.entry p)) ()))
          fun _ => iprop(boundary (SparseCore.T d) ∗ R.post d) : sProp 𝕄) := by
  have h := (Pipeline.RegionSeg.wp (pcfgs (F := F)) adm (dats X Y b) none cellOf_inj EP defs₀ 𝒱₀ (K (F := F)).L (K (F := F)).lev R d none
    (fun _ h => nomatch h) (fun _ => .ret PUnit.unit) (fun _ => iprop(boundary (SparseCore.T d) ∗ R.post d))).trans
    ((K (F := F)).wp_liftProg (D (F := F)) 𝒱 (SparseCore.T d) Set.univ none (.op (.customCall (Pipeline.entry p) ()) fun _ => .ret PUnit.unit) _)
  iintro ⟨HL, ⟨Hc, Ht⟩, Hb, Hp⟩
  iapply h
  isplitr
  · iintro H
    rw [wp_ret]; imodintro
    iexact H
  isplitl [Hb]; · iexact Hb
  isplitl [Hp]; · iexact Hp
  isplitl [HL]; · iexact HL
  isplitl [Hc]; · iexact Hc
  iexact Ht

theorem wp_call1 [∀ e, Nonempty (Elt F e)] (d : Dev nD) :
    iprop(levAts (K (F := F)).L (K (F := F)).lev ∗ fresh 0 d ∗ boundary (SparseCore.T d) ∗ has d main_v0 (X d) ∗ has d main_v2 (Y d) ∗ settled b d)
      ⊢ (wp frame (wpE ((K (F := F)).defs (D (F := F))) 𝒱 (SparseCore.T d) none) Set.univ (Prog.lift (.customCall (SparseCore.inner (Pipeline.entry 0)) ()))
          fun _ => iprop(boundary (SparseCore.T d) ∗ has d main_v0 (X d) ∗ has d main_v2 (final1 X Y d) ∗ settled b d) : sProp 𝕄) :=
  wp_call b X Y d 0 (reg1 X Y b)

theorem wp_call2 [∀ e, Nonempty (Elt F e)] (d : Dev nD) :
    iprop(levAts (K (F := F)).L (K (F := F)).lev ∗ fresh 1 d ∗ boundary (SparseCore.T d) ∗ has d main_v1 (bits d) ∗ has d main_v0 (X d) ∗ has d main_v3 (final1 X Y d) ∗ settled b d)
      ⊢ (wp frame (wpE ((K (F := F)).defs (D (F := F))) 𝒱 (SparseCore.T d) none) Set.univ (Prog.lift (.customCall (SparseCore.inner (Pipeline.entry 1)) ()))
          fun _ => iprop(boundary (SparseCore.T d) ∗ has d main_v1 (bits d) ∗ has d main_v0 (X d) ∗ has d main_v3 (final2 X Y d) ∗ settled b d) : sProp 𝕄) :=
  wp_call b X Y d 1 (reg2 X Y b)

/-! ## The launch -/

def u₀ : UU := (initOf (K (F := F)).hsCells (K (F := F)).hsToks, (initOf (Pipeline.cells cfgs cellOf_inj) (Pipeline.launchToks cfgs cellOf_inj), 1))

/-- What the launch deals a TensorCore. -/
def dealt (d : Dev nD) : sProp 𝕄 :=
  iprop((bigSep Finset.univ fun p : Fin 2 => Pipeline.cellsGhost cfgs EP p d) ∗ bigSep Finset.univ fun p : Fin 2 => Pipeline.toksInit cfgs EP p d)

theorem dealt_eq (d : Dev nD) : (dealt (F := F) d : sProp 𝕄)
    = iprop((Pipeline.cellsGhost cfgs EP 0 d ∗ Pipeline.cellsGhost cfgs EP 1 d) ∗ (Pipeline.toksInit cfgs EP 0 d ∗ Pipeline.toksInit cfgs EP 1 d)) := by
  unfold dealt
  rw [bigSep_univ_two, bigSep_univ_two]

theorem none_of (s : Finset (Thread nD τ)) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells cfgs cellOf_inj) (Pipeline.launchToks cfgs cellOf_inj), (1 : Counters)))) $$ Hu
  icases H with ⟨HH, HR⟩
  have e : (BI.own ((embR : Emb (UP × Counters) 𝕄) (initOf (Pipeline.cells cfgs cellOf_inj) (Pipeline.launchToks cfgs cellOf_inj), (1 : Counters))) : sProp 𝕄)
      = BI.own (EP (initOf (Pipeline.cells cfgs cellOf_inj) (Pipeline.launchToks cfgs cellOf_inj))) := rfl
  ihave HR := (Entails.of_eq e) $$ HR
  imod (Pipeline.fund_ghost cfgs EP cellOf_inj) $$ HR with ⟨Hg, Ht⟩
  imodintro
  isplitl [HH]; · iexact HH
  isplitl [Hg Ht]
  · unfold dealt
    rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none_of]
  iempintro

/-! ## @main on the TensorCore -/

theorem unscopedBufs_eq (d : Dev nD) (W : (b : Ref sig .tc) → Buf (Elt F) ((d.tc : Thread nD τ).loc b)) :
    (unscopedBufs d W : sProp 𝕄) = iprop(has d main_arg0 (W main_arg0) ∗ has d main_v0 (W main_v0) ∗ has d main_v1 (W main_v1)
      ∗ has d main_v2 (W main_v2) ∗ has d main_v3 (W main_v3) ∗ has d main_v4 (W main_v4)) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

/-- What is kept for the end. -/
abbrev FIN (d : Dev nD) : sProp 𝕄 := iprop(has d main_arg0 (ini m d main_arg0) ∗ has d main_v4 (result m d))

/-- The bound of what the TensorCore recorded at the SparseCore call. -/
abbrev bd : ℕ := 8 * (SparseCore.Cfg.Blocks.one 1).fst 1

theorem owes_none (d : Dev nD) : (K (F := F)).Otc (nD := nD) d 1 = 0 := by
  unfold SparseCore.Cfg.Otc
  exact Finset.sum_eq_zero fun q _ => if_neg (by omega)

/-- The logits' reshape, the first result's copy and the result's reshape, as the program has them. -/
abbrev opIn : HloOp τ sig (Elt F) := StableHlo.reshape main_arg0 main_v0 (rfl : (.f32 : EltTy) = .f32) shapeCasts_S128x32x8192_S4096x8192
abbrev opCopy : HloOp τ sig (Elt F) := StableHlo.unary main_v2 main_v3 id
abbrev opOut : HloOp τ sig (Elt F) := StableHlo.reshape main_v3 main_v4 (rfl : (.f32 : EltTy) = .f32) shapeCasts_S4096x8192_S128x32x8192

theorem wp_in (d : Dev nD) :
    iprop(boundary (SparseCore.T d) ∗ has d main_arg0 (ini m d main_arg0) ∗ has d main_v0 (ini m d main_v0))
      ⊢ (wp frame (wpE ((K (F := F)).defs (D (F := F))) 𝒱 (SparseCore.T d) none) Set.univ (hlo rfl (opIn (F := F)) fun _ => .ret PUnit.unit)
          fun _ => iprop(boundary (SparseCore.T d) ∗ has d main_arg0 (ini m d main_arg0) ∗ has d main_v0 (logits m d)) : sProp 𝕄) :=
  wp_two m d opIn main_arg0 main_v0 (by decide) rfl rfl _ _ _ (fun W => StableHlo.reshape_result_ne _ _ _ _ _ _ _ (by decide))
    (fun W h => by rw [StableHlo.reshape_result, h]; rfl)

theorem wp_copy (d : Dev nD) (f : Dev nD → S4096x8192.Idx → F .f32) :
    iprop(boundary (SparseCore.T d) ∗ has d main_v2 (f d) ∗ has d main_v3 (ini m d main_v3))
      ⊢ (wp frame (wpE ((K (F := F)).defs (D (F := F))) 𝒱 (SparseCore.T d) none) Set.univ (hlo rfl (opCopy (F := F)) fun _ => .ret PUnit.unit)
          fun _ => iprop(boundary (SparseCore.T d) ∗ has d main_v2 (f d) ∗ has d main_v3 (f d)) : sProp 𝕄) :=
  wp_two m d opCopy main_v2 main_v3 (by decide) rfl rfl _ _ _ (fun W => StableHlo.unary_result_ne _ _ _ _ _ _ (by decide))
    (fun W h => by rw [StableHlo.unary_result, h]; rfl)

theorem wp_out (d : Dev nD) :
    iprop(boundary (SparseCore.T d) ∗ has d main_v3 (final2 (logits m) (start2 m) d) ∗ has d main_v4 (ini m d main_v4))
      ⊢ (wp frame (wpE ((K (F := F)).defs (D (F := F))) 𝒱 (SparseCore.T d) none) Set.univ (hlo rfl (opOut (F := F)) fun _ => .ret PUnit.unit)
          fun _ => iprop(boundary (SparseCore.T d) ∗ has d main_v3 (final2 (logits m) (start2 m) d) ∗ has d main_v4 (result m d)) : sProp 𝕄) :=
  wp_two m d opOut main_v3 main_v4 (by decide) rfl rfl _ _ _ (fun W => StableHlo.reshape_result_ne _ _ _ _ _ _ _ (by decide))
    (fun W h => by rw [StableHlo.reshape_result, h]; rfl)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ dealt d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, dealt_eq]
  simp only [main, wp_bind, wp_pure]
  iintro ⟨#Hctx, Hst, ⟨Hb, ⟨Ha, H0, H1, H2, H3, H4⟩, Hts, -⟩, ⟨⟨Hc1, Hc2⟩, ⟨Ht1, Ht2⟩⟩⟩
  iapply wp_wand_r
  isplitl [Hb Ha H0]
  · iapply (wp_in m d)
    isplitl [Hb]; · iexact Hb
    isplitl [Ha]; · iexact Ha
    iexact H0
  iintro %_ ⟨Hb, Ha, H0⟩
  iapply ((K (F := F)).wp_run (D (F := F)) 𝒱 (EH := EH) (P := P m) κ d 0)
  isplitr; · iexact Hctx
  isplitl [Hst]; · iexact Hst
  isplitl [H1]
  · rw [st0_eq]; iexact H1
  iintro ⟨Hst, Hdn⟩
  ihave H1 := (Entails.of_eq (dn0_eq m d)) $$ Hdn
  ihave Hlev := (SparseCore.Cfg.ctx_levAts κ) $$ Hctx
  unfold SparseCore.Cfg.tcSt
  icases Hst with ⟨⟨%W, %hW, HO⟩, Hst⟩
  iapply wp_wand_r
  isplitl [Hb H0 H2 HO Hc1 Ht1]
  · iapply (wp_call1 bd (logits m) (start2 m) d)
    isplitr; · iexact Hlev
    isplitl [Hc1 Ht1]
    · isplitl [Hc1]; · iexact Hc1
      iexact Ht1
    isplitl [Hb]; · iexact Hb
    isplitl [H0]; · iexact H0
    isplitl [H2]; · iexact H2
    unfold settled
    iexists W
    isplitr; · ipureintro; exact hW
    rw [← owes_none (F := F) d]
    iexact HO
  iintro %_ ⟨Hb, H0, H2, HO⟩
  iapply wp_wand_r
  isplitl [Hb H2 H3]
  · iapply (wp_copy m d (final1 (logits m) (start2 m)))
    isplitl [Hb]; · iexact Hb
    isplitl [H2]; · iexact H2
    iexact H3
  iintro %_ ⟨Hb, H2, H3⟩
  iapply wp_wand_r
  isplitl [Hb H0 H1 H3 HO Hc2 Ht2]
  · iapply (wp_call2 bd (logits m) (start2 m) d)
    isplitr; · iexact Hlev
    isplitl [Hc2 Ht2]
    · isplitl [Hc2]; · iexact Hc2
      iexact Ht2
    isplitl [Hb]; · iexact Hb
    isplitl [H1]; · iexact H1
    isplitl [H0]; · iexact H0
    isplitl [H3]; · iexact H3
    iexact HO
  iintro %_ ⟨Hb, H1, H0, H3, HO⟩
  iapply wp_wand_r
  isplitl [Hb H3 H4]
  · iapply (wp_out m d)
    isplitl [Hb]; · iexact Hb
    isplitl [H3]; · iexact H3
    iexact H4
  iintro %_ ⟨Hb, H3, H4⟩
  imodintro
  isplitl [Hst HO]
  · unfold settled
    icases HO with ⟨%W', %hW', HO⟩
    isplitl [HO]
    · iexists W'
      isplitr; · ipureintro; exact hW'
      rw [owes_none (F := F) d]
      iexact HO
    iexact Hst
  isplitl [Ha H4]
  · isplitl [Ha]; · iexact Ha
    iexact H4
  isplitl [Hb]; · iexact Hb
  iexact Hts

/-! ## The claim -/

def fq (d : Dev nD) (s' : Phys nD τ sig (Elt F)) : Prop :=
  s'.mem.mem ((SparseCore.T d).loc main_arg0) = ini m d main_arg0 ∧ s'.mem.mem ((SparseCore.T d).loc main_v4) = result m d

set_option maxRecDepth 16384 in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := (SparseCore.T d).loc main_arg0) (I := Finset.univ) (q := fullShare) (f := ini m d main_arg0))) $$ [HSI Ha]
  · isplitl [HSI] <;> iassumption
  icases H with ⟨%h1, HSI, -⟩
  ihave H := (SI_pointsTo_agree (st := s') (ℓ := (SparseCore.T d).loc main_v4) (I := Finset.univ) (q := fullShare) (f := result m d)) $$ [HSI Hr]
  · isplitl [HSI] <;> iassumption
  icases H with %h2
  ipureintro; exact ⟨funext fun i => h1 i (Finset.mem_univ i), funext fun i => h2 i (Finset.mem_univ i)⟩

/-- What every final memory holds. -/
def QC : PUnit × MemSt nD τ sig (Elt F) → Prop := fun r =>
  (∀ d : Dev nD, r.2.mem ((SparseCore.T d).loc main_arg0) = ini m d main_arg0 ∧ r.2.mem ((SparseCore.T d).loc main_v4) = result m d)
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main dealt (FIN m) (u₀ (F := F)) (sep_elim_left.trans (hu₀ m)) (hmain m ρ) (fq m) (hfin m) (QC m) (fun _ h hz => ⟨h, hz⟩)

end Cert.Proof.Run
-- ==== Proof.Line.lean ====
module

public import Idealize.ShloMosaic.Lib.StableHlo.RunHlo

@[expose] public section

/-! # A straight line that writes each buffer once

  Give every buffer a rank, so that the operations write buffers of ranks `k`, `k + 1`, … in turn and each
  reads only buffers of lower rank than the one it writes. Then what the line leaves is settled by every
  operation: applying any of them again changes nothing. So each buffer's final contents are its operation's
  function of the operands' final contents, whichever order one asks in. -/

noncomputable section

namespace Cert.Line

open Idealize.ShloMosaic Idealize.ShloMosaic.TcCoe Idealize.ShloMosaic.StableHlo

variable {τ : Topo} {sig : RefSig} {Val : EltTy → Type}

/-- The operation writes one buffer, of rank `k`, and what it writes depends on buffers of lower rank only. -/
structure Step (rk : Ref sig .tc → ℕ) (k : ℕ) (op : HloOp τ sig Val) : Prop where
  one : ∃ y : Ref sig .tc, rk y = k ∧ op.writes = {(y : DevRef τ sig)} ∧
    ∀ A B : Valuation τ sig Val, (∀ r : Ref sig .tc, rk r < k → A r = B r) → op.result A y = op.result B y
  sub : op.bufs ⊆ tcRefs τ sig
  fresh : op.fresh = ∅

/-- The operations write ranks `k`, `k + 1`, … in turn. -/
inductive Ranked (rk : Ref sig .tc → ℕ) : ℕ → List (HloOp τ sig Val) → Prop
  | nil (k : ℕ) : Ranked rk k []
  | cons {k : ℕ} {op : HloOp τ sig Val} {ops : List (HloOp τ sig Val)} :
      Step rk k op → Ranked rk (k + 1) ops → Ranked rk k (op :: ops)

variable {rk : Ref sig .tc → ℕ}

theorem Ranked.append {k n : ℕ} {l l' : List (HloOp τ sig Val)} (h : Ranked rk k l) (hn : n = k + l.length)
    (h' : Ranked rk n l') : Ranked rk k (l ++ l') := by
  subst hn
  induction h with
  | nil k => simpa using h'
  | cons s _ ih =>
    refine .cons s (ih ?_)
    simpa [Nat.add_comm, Nat.add_left_comm, Nat.add_assoc] using h'

theorem Ranked.steps {k : ℕ} {ops : List (HloOp τ sig Val)} (h : Ranked rk k ops) : ∀ op ∈ ops, ∃ j, Step rk j op := by
  induction h with
  | nil => intro op ho; cases ho
  | cons s _ ih =>
    intro op ho
    rcases List.mem_cons.mp ho with rfl | ho
    exacts [⟨_, s⟩, ih op ho]

theorem Ranked.sub {k : ℕ} {ops : List (HloOp τ sig Val)} (h : Ranked rk k ops) :
    ops.Forall fun op => op.bufs ⊆ tcRefs τ sig :=
  List.forall_iff_forall_mem.mpr fun op ho => (h.steps op ho).choose_spec.sub

theorem Ranked.fresh {k : ℕ} {ops : List (HloOp τ sig Val)} (h : Ranked rk k ops) : ∀ op ∈ ops, op.fresh = ∅ :=
  fun op ho => (h.steps op ho).choose_spec.fresh

/-- A buffer of lower rank than any written keeps its contents. -/
theorem Ranked.keeps {k : ℕ} {ops : List (HloOp τ sig Val)} (h : Ranked rk k ops) :
    ∀ (V : Valuation τ sig Val) (r : Ref sig .tc), rk r < k → after ops V r = V r := by
  induction h with
  | nil => intro V r _; rfl
  | @cons k op ops s _ ih =>
    intro V r hr
    obtain ⟨y, hy, hw, -⟩ := s.one
    rw [after_cons, ih _ r (by omega), op.result_of_not_mem]
    rw [hw, Finset.mem_singleton]
    intro e
    have := Proc.devRef_injective _ e
    subst this; omega

/-- What the line leaves is settled by each of its operations. -/
theorem Ranked.settled {k : ℕ} {ops : List (HloOp τ sig Val)} (h : Ranked rk k ops) :
    ∀ (V : Valuation τ sig Val), ∀ op ∈ ops, op.result (after ops V) = after ops V := by
  induction h with
  | nil => intro V op ho; cases ho
  | @cons k op ops s hl ih =>
    intro V o ho
    rcases List.mem_cons.mp ho with rfl | ho
    · obtain ⟨y, hy, hw, hf⟩ := s.one
      funext b
      by_cases hb : b ∈ o.writes
      · rw [hw, Finset.mem_singleton] at hb
        subst hb
        rw [hf (after (o :: ops) V) V, after_cons, hl.keeps _ y (by omega)]
        intro r hr
        exact Ranked.keeps (.cons s hl) V r hr
      · exact o.result_of_not_mem _ hb
    · exact ih _ o ho

/-! ## The operations' steps -/

theorem step_nullary {k : ℕ} (y : Ref sig .tc) (v : y.ty.Contents Val) (hy) (h : rk y = k) :
    Step rk k (nullary (τ := τ) y v hy) :=
  ⟨⟨y, h, rfl, fun A B _ => by rw [nullary_result, nullary_result]⟩, nullary_bufs_sub .., rfl⟩

theorem step_unary {k : ℕ} (x y : Ref sig .tc) (f : x.ty.Contents Val → y.ty.Contents Val) (hx hy)
    (h : rk y = k) (h₁ : rk x < k) : Step rk k (unary (τ := τ) x y f hx hy) :=
  ⟨⟨y, h, rfl, fun A B e => by rw [unary_result, unary_result, e x h₁]⟩, unary_bufs_sub .., rfl⟩

theorem step_binary {k : ℕ} (a b y : Ref sig .tc) (f : a.ty.Contents Val → b.ty.Contents Val → y.ty.Contents Val) (ha hb hy)
    (h : rk y = k) (h₁ : rk a < k) (h₂ : rk b < k) : Step rk k (binary (τ := τ) a b y f ha hb hy) :=
  ⟨⟨y, h, rfl, fun A B e => by rw [binary_result, binary_result, e a h₁, e b h₂]⟩, binary_bufs_sub .., rfl⟩

theorem step_quaternary {k : ℕ} (a b c e y : Ref sig .tc)
    (f : a.ty.Contents Val → b.ty.Contents Val → c.ty.Contents Val → e.ty.Contents Val → y.ty.Contents Val) (ha hb hc he hy)
    (h : rk y = k) (h₁ : rk a < k) (h₂ : rk b < k) (h₃ : rk c < k) (h₄ : rk e < k) :
    Step rk k (quaternary (τ := τ) a b c e y f ha hb hc he hy) :=
  ⟨⟨y, h, rfl, fun A B g => by rw [quaternary_result, quaternary_result, g a h₁, g b h₂, g c h₃, g e h₄]⟩,
    quaternary_bufs_sub .., rfl⟩

theorem step_reshape {k : ℕ} (x y : Ref sig .tc) (he : x.ty.elt = y.ty.elt) (hn : x.ty.shape.ShapeCasts y.ty.shape) (hx hy)
    (h : rk y = k) (h₁ : rk x < k) : Step rk k (reshape (τ := τ) (Val := Val) x y he hn hx hy) :=
  ⟨⟨y, h, rfl, fun A B e => by rw [reshape_result, reshape_result, e x h₁]⟩, reshape_bufs_sub .., rfl⟩

/-! ## The contents settled, at typed references -/

/-- The contents of a typed reference's buffer, at the value's type. -/
def val {T : BufTy} (W : Valuation τ sig Val) (x : TRef sig T) : T.Contents Val := x.ofBuf (W (x.ref : DevRef τ sig))

variable {T Ta Tb Tc Te Ty : BufTy} {W : Valuation τ sig Val}

theorem val_of {T : BufTy} (W : Valuation τ sig Val) (x : TRef sig T) (v : T.Contents Val)
    (h : W (x.ref : DevRef τ sig) = x.toBuf v) : val W x = v := by
  unfold val; rw [h]; simp [TRef.ofBuf, TRef.toBuf]

theorem val_nullary {y : TRef sig Ty} {v : Ty.Contents Val}
    (h : (TRef.nullary (τ := τ) y v).result W = W) : val W y = v :=
  val_of W y v (by rw [← congrFun h (y.ref : DevRef τ sig)]; exact nullary_result ..)

theorem val_unary {x : TRef sig Ta} {y : TRef sig Ty} {f : Ta.Contents Val → Ty.Contents Val}
    (h : (TRef.unary (τ := τ) x y f).result W = W) : val W y = f (val W x) :=
  val_of W y _ (by conv_lhs => rw [← congrFun h (y.ref : DevRef τ sig)]
                   exact unary_result ..)

theorem val_binary {a : TRef sig Ta} {b : TRef sig Tb} {y : TRef sig Ty} {f : Ta.Contents Val → Tb.Contents Val → Ty.Contents Val}
    (h : (TRef.binary (τ := τ) a b y f).result W = W) : val W y = f (val W a) (val W b) :=
  val_of W y _ (by conv_lhs => rw [← congrFun h (y.ref : DevRef τ sig)]
                   exact binary_result ..)

theorem val_quaternary {a : TRef sig Ta} {b : TRef sig Tb} {c : TRef sig Tc} {e : TRef sig Te} {y : TRef sig Ty}
    {f : Ta.Contents Val → Tb.Contents Val → Tc.Contents Val → Te.Contents Val → Ty.Contents Val}
    (h : (TRef.quaternary (τ := τ) a b c e y f).result W = W) : val W y = f (val W a) (val W b) (val W c) (val W e) :=
  val_of W y _ (by conv_lhs => rw [← congrFun h (y.ref : DevRef τ sig)]
                   exact quaternary_result ..)

end Cert.Line

end
-- ==== Proof.RefLine.lean ====
module

public import proofs.«01_k».proof.Proof.Gen.ReferenceIdeal
public import proofs.«01_k».proof.Proof.Line
public import Idealize.ShloMosaic.Lib.Quiescent

@[expose] public section

/-! # The reference's operations, in order

  The reference is a straight line of 323 operations, each writing a buffer of its own. They are named here
  function by function; a round of the hash and an addition of key words are named once each, since the hash is
  twenty of the one and five of the other. -/

noncomputable section

namespace Cert.Ref

open Idealize.ShloMosaic Idealize.ShloMosaic.TcCoe Idealize.ShloMosaic.StableHlo Idealize.SL.Sem
open Cert.ReferenceIdeal Cert.ReferenceIdeal.Gen Cert.Line

variable {F : FTy → Type} [FloatOps F]

/-- A word, and an array of words, by reference. -/
abbrev Word0 := TRef sig ⟨S_, .i32⟩
@[inherit_doc Word0]
abbrev Words := TRef sig ⟨S128x32x8192, .i32⟩

/-- One round of the hash on `(x, y)`: the sum `x1`, and `y1`, the sum's exclusive or with `y` rotated by `r`. -/
def round (x y x1 : Words) (ca : Word0) (ba l : Words) (cb : Word0) (bb s o y1 : Words) (r r' : BitVec 32) :
    List (HloOp τ sig (Elt F)) :=
  [ TRef.binary x y x1 addi,
    TRef.nullary ca (constantI S_ 32 r),
    TRef.unary ca ba (broadcastInDim S128x32x8192 ![] bcast_S_S128x32x8192),
    TRef.binary y ba l Host.shli,
    TRef.nullary cb (constantI S_ 32 r'),
    TRef.unary cb bb (broadcastInDim S128x32x8192 ![] bcast_S_S128x32x8192),
    TRef.binary y bb s Host.shrui,
    TRef.binary l s o ori,
    TRef.binary x1 o y1 xori ]

/-- The key words `ka` and `kb + n` added to `(x, y)`, into `x1` and `y1`. -/
def keys (ka kb : Word0) (x y b1 x1 b2 t : Words) (c : Word0) (b3 y1 : Words) (n : BitVec 32) :
    List (HloOp τ sig (Elt F)) :=
  [ TRef.unary ka b1 (broadcastInDim S128x32x8192 ![] bcast_S_S128x32x8192),
    TRef.binary x b1 x1 addi,
    TRef.unary kb b2 (broadcastInDim S128x32x8192 ![] bcast_S_S128x32x8192),
    TRef.binary y b2 t addi,
    TRef.nullary c (constantI S_ 32 n),
    TRef.unary c b3 (broadcastInDim S128x32x8192 ![] bcast_S_S128x32x8192),
    TRef.binary t b3 y1 addi ]

section Hash

variable (arg0 arg1 : Word0) (arg2 arg3 : Words) (φ : fn_threefry2x32.Bufs)

/-- The third key word, and the key added to the counters. -/
def hashStart : List (HloOp τ sig (Elt F)) :=
  [
    TRef.binary arg0 arg1 φ.v0 xori,
    TRef.nullary φ.c (constantI S_ 32 466688986#32),
    TRef.binary φ.v0 φ.c φ.v1 xori,
    TRef.unary arg0 φ.v2 (broadcastInDim S128x32x8192 ![] bcast_S_S128x32x8192),
    TRef.binary arg2 φ.v2 φ.v3 addi,
    TRef.unary arg1 φ.v4 (broadcastInDim S128x32x8192 ![] bcast_S_S128x32x8192),
    TRef.binary arg3 φ.v4 φ.v5 addi ]

/-- Rounds 1 to 4, and the key words after them. -/
def hash1 : List (HloOp τ sig (Elt F)) :=
  round φ.v3 φ.v5 φ.v6 φ.c_0 φ.v7 φ.v8 φ.c_1 φ.v9 φ.v10 φ.v11 φ.v12 13#32 19#32 ++
  round φ.v6 φ.v12 φ.v13 φ.c_2 φ.v14 φ.v15 φ.c_3 φ.v16 φ.v17 φ.v18 φ.v19 15#32 17#32 ++
  round φ.v13 φ.v19 φ.v20 φ.c_4 φ.v21 φ.v22 φ.c_5 φ.v23 φ.v24 φ.v25 φ.v26 26#32 6#32 ++
  round φ.v20 φ.v26 φ.v27 φ.c_6 φ.v28 φ.v29 φ.c_7 φ.v30 φ.v31 φ.v32 φ.v33 6#32 26#32 ++
  keys arg1 φ.v1 φ.v27 φ.v33 φ.v34 φ.v35 φ.v36 φ.v37 φ.c_8 φ.v38 φ.v39 1#32

/-- Rounds 5 to 8, and the key words after them. -/
def hash2 : List (HloOp τ sig (Elt F)) :=
  round φ.v35 φ.v39 φ.v40 φ.c_9 φ.v41 φ.v42 φ.c_10 φ.v43 φ.v44 φ.v45 φ.v46 17#32 15#32 ++
  round φ.v40 φ.v46 φ.v47 φ.c_11 φ.v48 φ.v49 φ.c_12 φ.v50 φ.v51 φ.v52 φ.v53 29#32 3#32 ++
  round φ.v47 φ.v53 φ.v54 φ.c_13 φ.v55 φ.v56 φ.c_14 φ.v57 φ.v58 φ.v59 φ.v60 16#32 16#32 ++
  round φ.v54 φ.v60 φ.v61 φ.c_15 φ.v62 φ.v63 φ.c_16 φ.v64 φ.v65 φ.v66 φ.v67 24#32 8#32 ++
  keys φ.v1 arg0 φ.v61 φ.v67 φ.v68 φ.v69 φ.v70 φ.v71 φ.c_17 φ.v72 φ.v73 2#32

/-- Rounds 9 to 12, and the key words after them. -/
def hash3 : List (HloOp τ sig (Elt F)) :=
  round φ.v69 φ.v73 φ.v74 φ.c_18 φ.v75 φ.v76 φ.c_19 φ.v77 φ.v78 φ.v79 φ.v80 13#32 19#32 ++
  round φ.v74 φ.v80 φ.v81 φ.c_20 φ.v82 φ.v83 φ.c_21 φ.v84 φ.v85 φ.v86 φ.v87 15#32 17#32 ++
  round φ.v81 φ.v87 φ.v88 φ.c_22 φ.v89 φ.v90 φ.c_23 φ.v91 φ.v92 φ.v93 φ.v94 26#32 6#32 ++
  round φ.v88 φ.v94 φ.v95 φ.c_24 φ.v96 φ.v97 φ.c_25 φ.v98 φ.v99 φ.v100 φ.v101 6#32 26#32 ++
  keys arg0 arg1 φ.v95 φ.v101 φ.v102 φ.v103 φ.v104 φ.v105 φ.c_26 φ.v106 φ.v107 3#32

/-- Rounds 13 to 16, and the key words after them. -/
def hash4 : List (HloOp τ sig (Elt F)) :=
  round φ.v103 φ.v107 φ.v108 φ.c_27 φ.v109 φ.v110 φ.c_28 φ.v111 φ.v112 φ.v113 φ.v114 17#32 15#32 ++
  round φ.v108 φ.v114 φ.v115 φ.c_29 φ.v116 φ.v117 φ.c_30 φ.v118 φ.v119 φ.v120 φ.v121 29#32 3#32 ++
  round φ.v115 φ.v121 φ.v122 φ.c_31 φ.v123 φ.v124 φ.c_32 φ.v125 φ.v126 φ.v127 φ.v128 16#32 16#32 ++
  round φ.v122 φ.v128 φ.v129 φ.c_33 φ.v130 φ.v131 φ.c_34 φ.v132 φ.v133 φ.v134 φ.v135 24#32 8#32 ++
  keys arg1 φ.v1 φ.v129 φ.v135 φ.v136 φ.v137 φ.v138 φ.v139 φ.c_35 φ.v140 φ.v141 4#32

/-- Rounds 17 to 20, and the key words after them. -/
def hash5 : List (HloOp τ sig (Elt F)) :=
  round φ.v137 φ.v141 φ.v142 φ.c_36 φ.v143 φ.v144 φ.c_37 φ.v145 φ.v146 φ.v147 φ.v148 13#32 19#32 ++
  round φ.v142 φ.v148 φ.v149 φ.c_38 φ.v150 φ.v151 φ.c_39 φ.v152 φ.v153 φ.v154 φ.v155 15#32 17#32 ++
  round φ.v149 φ.v155 φ.v156 φ.c_40 φ.v157 φ.v158 φ.c_41 φ.v159 φ.v160 φ.v161 φ.v162 26#32 6#32 ++
  round φ.v156 φ.v162 φ.v163 φ.c_42 φ.v164 φ.v165 φ.c_43 φ.v166 φ.v167 φ.v168 φ.v169 6#32 26#32 ++
  keys φ.v1 arg0 φ.v163 φ.v169 φ.v170 φ.v171 φ.v172 φ.v173 φ.c_44 φ.v174 φ.v175 5#32

/-- The hash of the counters `(arg2, arg3)` under the key `(arg0, arg1)`. -/
def hashOps : List (HloOp τ sig (Elt F)) :=
  hashStart arg0 arg1 arg2 arg3 φ ++ hash1 arg1 φ ++ hash2 arg0 φ ++ hash3 arg0 arg1 φ ++ hash4 arg1 φ ++ hash5 arg0 φ

end Hash

section Uniform

variable (arg0 : TRef sig ⟨S2, .i32⟩) (arg1 arg2 : TRef sig ⟨S_, .f32⟩) (φ : fn_uniform.Bufs)

/-- The key's words, and each element's position as a pair of words. -/
def counters : List (HloOp τ sig (Elt F)) :=
  [
    TRef.unary arg1 φ.v0 id,
    TRef.unary arg2 φ.v1 id,
    TRef.unary φ.v0 φ.v2 (broadcastInDim S1x1x1 ![] bcast_S_S1x1x1),
    TRef.unary φ.v1 φ.v3 (broadcastInDim S1x1x1 ![] bcast_S_S1x1x1),
    TRef.unary arg0 φ.v4 (extractStridedSlice S1 ![0] · slices_S2_S1_0),
    TRef.reshape φ.v4 φ.v5 (rfl : (.i32 : EltTy) = .i32) shapeCasts_S1_S_,
    TRef.unary arg0 φ.v6 (extractStridedSlice S1 ![1] · slices_S2_S1_1),
    TRef.reshape φ.v6 φ.v7 (rfl : (.i32 : EltTy) = .i32) shapeCasts_S1_S_,
    TRef.nullary φ.v8 (iotaInDim S128x32x8192 64 0),
    TRef.nullary φ.v9 (iotaInDim S128x32x8192 64 1),
    TRef.nullary φ.v10 (iotaInDim S128x32x8192 64 2),
    TRef.nullary φ.c (constantI S_ 64 262144#64),
    TRef.unary φ.c φ.v11 (broadcastInDim S128x32x8192 ![] bcast_S_S128x32x8192),
    TRef.binary φ.v11 φ.v8 φ.v12 muli,
    TRef.nullary φ.c_0 (constantI S_ 64 8192#64),
    TRef.unary φ.c_0 φ.v13 (broadcastInDim S128x32x8192 ![] bcast_S_S128x32x8192),
    TRef.binary φ.v13 φ.v9 φ.v14 muli,
    TRef.nullary φ.c_1 (constantI S_ 64 1#64),
    TRef.unary φ.c_1 φ.v15 (broadcastInDim S128x32x8192 ![] bcast_S_S128x32x8192),
    TRef.binary φ.v15 φ.v10 φ.v16 muli,
    TRef.binary φ.v12 φ.v14 φ.v17 addi,
    TRef.binary φ.v17 φ.v16 φ.v18 addi,
    TRef.nullary φ.c_2 (constantI S_ 64 32#64),
    TRef.unary φ.c_2 φ.v19 (broadcastInDim S128x32x8192 ![] bcast_S_S128x32x8192),
    TRef.binary φ.v18 φ.v19 φ.v20 Host.shrui,
    TRef.unary φ.v18 φ.v21 (trunci 32 · natLt_32_64),
    TRef.unary φ.v20 φ.v22 (trunci 32 · natLt_32_64) ]

/-- The hash's words made uniform variates of the unit interval. -/
def scaled : List (HloOp τ sig (Elt F)) :=
  [
    TRef.binary φ.call0.v171 φ.call0.v175 φ.v24 xori,
    TRef.nullary φ.c_3 (constantI S_ 32 9#32),
    TRef.unary φ.c_3 φ.v25 (broadcastInDim S128x32x8192 ![] bcast_S_S128x32x8192),
    TRef.binary φ.v24 φ.v25 φ.v26 Host.shrui,
    TRef.nullary φ.c_4 (constantI S_ 32 1065353216#32),
    TRef.unary φ.c_4 φ.v27 (broadcastInDim S128x32x8192 ![] bcast_S_S128x32x8192),
    TRef.binary φ.v26 φ.v27 φ.v28 ori,
    TRef.unary φ.v28 φ.v29 (bitcastToFloat .f32),
    TRef.nullary φ.cst (constant S_ .f32 0x3F800000#32),
    TRef.unary φ.cst φ.v30 (broadcastInDim S128x32x8192 ![] bcast_S_S128x32x8192),
    TRef.binary φ.v29 φ.v30 φ.v31 subf,
    TRef.binary φ.v3 φ.v2 φ.v32 subf,
    TRef.unary φ.v32 φ.v33 (broadcastInDim S128x32x8192 ![0, 1, 2] bcast_S1x1x1_S128x32x8192_0_1_2),
    TRef.binary φ.v31 φ.v33 φ.v34 mulf,
    TRef.unary φ.v2 φ.v35 (broadcastInDim S128x32x8192 ![0, 1, 2] bcast_S1x1x1_S128x32x8192_0_1_2),
    TRef.binary φ.v34 φ.v35 φ.v36 addf,
    TRef.unary φ.v2 φ.v37 (broadcastInDim S128x32x8192 ![0, 1, 2] bcast_S1x1x1_S128x32x8192_0_1_2),
    TRef.binary φ.v37 φ.v36 φ.v38 maximumf ]

/-- The uniform variates. -/
def uniformOps : List (HloOp τ sig (Elt F)) :=
  counters arg0 arg1 arg2 φ ++ hashOps φ.v5 φ.v7 φ.v22 φ.v21 φ.call0 ++ scaled φ

end Uniform

/-- The index of each row's first greatest element. -/
def argmaxOps (arg0 : TRef sig ⟨S128x32x8192, .f32⟩) (φ : fn_argmax.Bufs) : List (HloOp τ sig (Elt F)) :=
  [
    TRef.nullary φ.v0 (iotaInDim S128x32x8192 32 2),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S128x32x8192_S128x32_d2 h_S_ j).1),
    TRef.quaternary arg0 φ.v0 φ.cst φ.c φ.v1_1 (fun x y u v j => (Host.argReduce reducer_argmax_f32_i32 x y u v reducesTo_S128x32x8192_S128x32_d2 h_S_ j).2) ]

/-- The one-hot rows of those indices. -/
def oneHotOps (arg0 : TRef sig ⟨S128x32, .i32⟩) (φ : fn_one_hot.Bufs) : List (HloOp τ sig (Elt F)) :=
  [
    TRef.unary arg0 φ.v0 (broadcastInDim S128x32x1 ![0, 1] bcast_S128x32_S128x32x1_0_1),
    TRef.nullary φ.v1 (iotaInDim S1x1x8192 32 2),
    TRef.unary φ.v0 φ.v2 (broadcastInDim S128x32x8192 ![0, 1, 2] bcast_S128x32x1_S128x32x8192_0_1_2),
    TRef.unary φ.v1 φ.v3 (broadcastInDim S128x32x8192 ![0, 1, 2] bcast_S1x1x8192_S128x32x8192_0_1_2),
    TRef.binary φ.v2 φ.v3 φ.v4 (cmpi .eq),
    TRef.unary φ.v4 φ.v5 (uitofp .f32) ]

/-- The key. -/
def keyOps : List (HloOp τ sig (Elt F)) :=
  [
    nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst (constant S_ .f32 0x00000000#32),
    nullary main_cst_2 (constant S_ .f32 0x3F800000#32) ]

/-- The noise, and the softmax of the logits with it. -/
def softOps : List (HloOp τ sig (Elt F)) :=
  [
    nullary main_cst_3 (constant S_ .f32 0x3F800000#32),
    unary main_cst_3 main_v8 (broadcastInDim S128x32x8192 ![] bcast_S_S128x32x8192 : (⟨S_, .f32⟩ : BufTy).Contents (Elt F) → (⟨S128x32x8192, .f32⟩ : BufTy).Contents (Elt F)),
    binary main_v7 main_v8 main_v9 (mulf : (⟨S128x32x8192, .f32⟩ : BufTy).Contents (Elt F) → (⟨S128x32x8192, .f32⟩ : BufTy).Contents (Elt F) → (⟨S128x32x8192, .f32⟩ : BufTy).Contents (Elt F)),
    nullary main_cst_4 (constant S_ .f32 0x2EDBE6FF#32),
    unary main_cst_4 main_v10 (broadcastInDim S128x32x8192 ![] bcast_S_S128x32x8192 : (⟨S_, .f32⟩ : BufTy).Contents (Elt F) → (⟨S128x32x8192, .f32⟩ : BufTy).Contents (Elt F)),
    binary main_v9 main_v10 main_v11 (addf : (⟨S128x32x8192, .f32⟩ : BufTy).Contents (Elt F) → (⟨S128x32x8192, .f32⟩ : BufTy).Contents (Elt F) → (⟨S128x32x8192, .f32⟩ : BufTy).Contents (Elt F)),
    nullary main_cst_5 (constant S_ .f32 0x2EDBE6FF#32),
    unary main_cst_5 main_v12 (broadcastInDim S128x32x8192 ![] bcast_S_S128x32x8192 : (⟨S_, .f32⟩ : BufTy).Contents (Elt F) → (⟨S128x32x8192, .f32⟩ : BufTy).Contents (Elt F)),
    binary main_v12 main_v11 main_v13 (maximumf : (⟨S128x32x8192, .f32⟩ : BufTy).Contents (Elt F) → (⟨S128x32x8192, .f32⟩ : BufTy).Contents (Elt F) → (⟨S128x32x8192, .f32⟩ : BufTy).Contents (Elt F)),
    unary main_v13 main_v14 (Host.log : (⟨S128x32x8192, .f32⟩ : BufTy).Contents (Elt F) → (⟨S128x32x8192, .f32⟩ : BufTy).Contents (Elt F)),
    unary main_v14 main_v15 (Host.negf : (⟨S128x32x8192, .f32⟩ : BufTy).Contents (Elt F) → (⟨S128x32x8192, .f32⟩ : BufTy).Contents (Elt F)),
    unary main_v15 main_v16 (Host.log : (⟨S128x32x8192, .f32⟩ : BufTy).Contents (Elt F) → (⟨S128x32x8192, .f32⟩ : BufTy).Contents (Elt F)),
    unary main_v16 main_v17 (Host.negf : (⟨S128x32x8192, .f32⟩ : BufTy).Contents (Elt F) → (⟨S128x32x8192, .f32⟩ : BufTy).Contents (Elt F)),
    binary main_arg0 main_v17 main_v18 (addf : (⟨S128x32x8192, .f32⟩ : BufTy).Contents (Elt F) → (⟨S128x32x8192, .f32⟩ : BufTy).Contents (Elt F) → (⟨S128x32x8192, .f32⟩ : BufTy).Contents (Elt F)),
    nullary main_cst_6 (constant S_ .f32 0x3F800000#32),
    unary main_cst_6 main_v19 (broadcastInDim S128x32x8192 ![] bcast_S_S128x32x8192 : (⟨S_, .f32⟩ : BufTy).Contents (Elt F) → (⟨S128x32x8192, .f32⟩ : BufTy).Contents (Elt F)),
    binary main_v18 main_v19 main_v20 (Host.divf : (⟨S128x32x8192, .f32⟩ : BufTy).Contents (Elt F) → (⟨S128x32x8192, .f32⟩ : BufTy).Contents (Elt F) → (⟨S128x32x8192, .f32⟩ : BufTy).Contents (Elt F)),
    nullary main_cst_7 (constant S_ .f32 0xFF800000#32),
    binary main_v20 main_cst_7 main_v21 ((fun x v => Host.reduce FloatOps.maximumf x v reducesTo_S128x32x8192_S128x32_d2 h_S_) : (⟨S128x32x8192, .f32⟩ : BufTy).Contents (Elt F) → (⟨S_, .f32⟩ : BufTy).Contents (Elt F) → (⟨S128x32, .f32⟩ : BufTy).Contents (Elt F)),
    nullary main_cst_8 (constant S_ .f32 0xFF800000#32),
    unary main_cst_8 main_v22 (broadcastInDim S128x32 ![] bcast_S_S128x32 : (⟨S_, .f32⟩ : BufTy).Contents (Elt F) → (⟨S128x32, .f32⟩ : BufTy).Contents (Elt F)),
    binary main_v22 main_v21 main_v23 (maximumf : (⟨S128x32, .f32⟩ : BufTy).Contents (Elt F) → (⟨S128x32, .f32⟩ : BufTy).Contents (Elt F) → (⟨S128x32, .f32⟩ : BufTy).Contents (Elt F)),
    unary main_v23 main_v24 (broadcastInDim S128x32x1 ![0, 1] bcast_S128x32_S128x32x1_0_1 : (⟨S128x32, .f32⟩ : BufTy).Contents (Elt F) → (⟨S128x32x1, .f32⟩ : BufTy).Contents (Elt F)),
    unary main_v24 main_v25 (broadcastInDim S128x32x8192 ![0, 1, 2] bcast_S128x32x1_S128x32x8192_0_1_2 : (⟨S128x32x1, .f32⟩ : BufTy).Contents (Elt F) → (⟨S128x32x8192, .f32⟩ : BufTy).Contents (Elt F)),
    binary main_v20 main_v25 main_v26 (subf : (⟨S128x32x8192, .f32⟩ : BufTy).Contents (Elt F) → (⟨S128x32x8192, .f32⟩ : BufTy).Contents (Elt F) → (⟨S128x32x8192, .f32⟩ : BufTy).Contents (Elt F)),
    unary main_v26 main_v27 (Host.exp : (⟨S128x32x8192, .f32⟩ : BufTy).Contents (Elt F) → (⟨S128x32x8192, .f32⟩ : BufTy).Contents (Elt F)),
    nullary main_cst_9 (constant S_ .f32 0x00000000#32),
    binary main_v27 main_cst_9 main_v28 ((fun x v => Host.reduceAdd x v reducesTo_S128x32x8192_S128x32_d2 h_S_) : (⟨S128x32x8192, .f32⟩ : BufTy).Contents (Elt F) → (⟨S_, .f32⟩ : BufTy).Contents (Elt F) → (⟨S128x32, .f32⟩ : BufTy).Contents (Elt F)),
    unary main_v28 main_v29 (broadcastInDim S128x32x1 ![0, 1] bcast_S128x32_S128x32x1_0_1 : (⟨S128x32, .f32⟩ : BufTy).Contents (Elt F) → (⟨S128x32x1, .f32⟩ : BufTy).Contents (Elt F)),
    unary main_v29 main_v30 (broadcastInDim S128x32x8192 ![0, 1, 2] bcast_S128x32x1_S128x32x8192_0_1_2 : (⟨S128x32x1, .f32⟩ : BufTy).Contents (Elt F) → (⟨S128x32x8192, .f32⟩ : BufTy).Contents (Elt F)),
    binary main_v27 main_v30 main_v31 (Host.divf : (⟨S128x32x8192, .f32⟩ : BufTy).Contents (Elt F) → (⟨S128x32x8192, .f32⟩ : BufTy).Contents (Elt F) → (⟨S128x32x8192, .f32⟩ : BufTy).Contents (Elt F)) ]

/-- The one-hot rows, the softmax added and taken away. -/
def throughOps : List (HloOp τ sig (Elt F)) :=
  [
    binary main_v33 main_v31 main_v34 (addf : (⟨S128x32x8192, .f32⟩ : BufTy).Contents (Elt F) → (⟨S128x32x8192, .f32⟩ : BufTy).Contents (Elt F) → (⟨S128x32x8192, .f32⟩ : BufTy).Contents (Elt F)),
    binary main_v34 main_v31 main_v35 (subf : (⟨S128x32x8192, .f32⟩ : BufTy).Contents (Elt F) → (⟨S128x32x8192, .f32⟩ : BufTy).Contents (Elt F) → (⟨S128x32x8192, .f32⟩ : BufTy).Contents (Elt F)) ]

/-- The reference's operations. -/
def ops : List (HloOp τ sig (Elt F)) :=
  keyOps ++ uniformOps (.of main_v6) (.of main_cst) (.of main_cst_2) main_call0 ++ softOps
    ++ argmaxOps (.of main_v31) main_call1 ++ oneHotOps (.of main_v32) main_call2 ++ throughOps

theorem main_eq (d : Dev nD) : IsSeq (main (F := F) d) ops := by
  unfold main ops
  simp only [List.append_assoc]
  unfold keyOps
  simp only [List.cons_append, List.nil_append]
  hlo_seq

/-! ## Each operation writes the next buffer -/

/-- A buffer's rank is its place among the tensor values. -/
abbrev rank (r : Ref sig .tc) : ℕ := r.idx.val

theorem ranked_round (k : ℕ) {x y x1 : Words} {ca : Word0} {ba l : Words} {cb : Word0} {bb s o y1 : Words} (r r' : BitVec 32)
    (hx : rank x.ref < k) (hy : rank y.ref < k) (h0 : rank x1.ref = k) (h1 : rank ca.ref = k + 1) (h2 : rank ba.ref = k + 2)
    (h3 : rank l.ref = k + 3) (h4 : rank cb.ref = k + 4) (h5 : rank bb.ref = k + 5) (h6 : rank s.ref = k + 6)
    (h7 : rank o.ref = k + 7) (h8 : rank y1.ref = k + 8) :
    Ranked rank k (round (F := F) x y x1 ca ba l cb bb s o y1 r r') := by
  unfold round
  refine .cons (step_binary _ _ _ _ _ _ _ h0 hx hy) <| .cons (step_nullary _ _ _ h1) <| .cons (step_unary _ _ _ _ _ h2 (by omega)) <|
    .cons (step_binary _ _ _ _ _ _ _ h3 (by omega) (by omega)) <| .cons (step_nullary _ _ _ h4) <|
    .cons (step_unary _ _ _ _ _ h5 (by omega)) <| .cons (step_binary _ _ _ _ _ _ _ h6 (by omega) (by omega)) <|
    .cons (step_binary _ _ _ _ _ _ _ h7 (by omega) (by omega)) <| .cons (step_binary _ _ _ _ _ _ _ h8 (by omega) (by omega)) <| .nil _

theorem ranked_keys (k : ℕ) {ka kb : Word0} {x y b1 x1 b2 t : Words} {c : Word0} {b3 y1 : Words} (n : BitVec 32)
    (ha : rank ka.ref < k) (hb : rank kb.ref < k) (hx : rank x.ref < k) (hy : rank y.ref < k) (h0 : rank b1.ref = k)
    (h1 : rank x1.ref = k + 1) (h2 : rank b2.ref = k + 2) (h3 : rank t.ref = k + 3) (h4 : rank c.ref = k + 4)
    (h5 : rank b3.ref = k + 5) (h6 : rank y1.ref = k + 6) :
    Ranked rank k (keys (F := F) ka kb x y b1 x1 b2 t c b3 y1 n) := by
  unfold keys
  refine .cons (step_unary _ _ _ _ _ h0 ha) <| .cons (step_binary _ _ _ _ _ _ _ h1 (by omega) (by omega)) <|
    .cons (step_unary _ _ _ _ _ h2 (by omega)) <| .cons (step_binary _ _ _ _ _ _ _ h3 (by omega) (by omega)) <|
    .cons (step_nullary _ _ _ h4) <| .cons (step_unary _ _ _ _ _ h5 (by omega)) <|
    .cons (step_binary _ _ _ _ _ _ _ h6 (by omega) (by omega)) <| .nil _

theorem ranked_hash1 : Ranked rank 47 (hash1 (F := F) main_call0.v7 main_call0_call0) := by
  unfold hash1
  exact Ranked.append (Ranked.append (Ranked.append (Ranked.append (ranked_round 47 _ _ (by decide) (by decide) rfl rfl rfl rfl rfl rfl rfl rfl rfl) (n := 56) rfl
    (ranked_round 56 _ _ (by decide) (by decide) rfl rfl rfl rfl rfl rfl rfl rfl rfl)) (n := 65) rfl
    (ranked_round 65 _ _ (by decide) (by decide) rfl rfl rfl rfl rfl rfl rfl rfl rfl)) (n := 74) rfl
    (ranked_round 74 _ _ (by decide) (by decide) rfl rfl rfl rfl rfl rfl rfl rfl rfl)) (n := 83) rfl
    (ranked_keys 83 _ (by decide) (by decide) (by decide) (by decide) rfl rfl rfl rfl rfl rfl rfl)

theorem ranked_hash2 : Ranked rank 90 (hash2 (F := F) main_call0.v5 main_call0_call0) := by
  unfold hash2
  exact Ranked.append (Ranked.append (Ranked.append (Ranked.append (ranked_round 90 _ _ (by decide) (by decide) rfl rfl rfl rfl rfl rfl rfl rfl rfl) (n := 99) rfl
    (ranked_round 99 _ _ (by decide) (by decide) rfl rfl rfl rfl rfl rfl rfl rfl rfl)) (n := 108) rfl
    (ranked_round 108 _ _ (by decide) (by decide) rfl rfl rfl rfl rfl rfl rfl rfl rfl)) (n := 117) rfl
    (ranked_round 117 _ _ (by decide) (by decide) rfl rfl rfl rfl rfl rfl rfl rfl rfl)) (n := 126) rfl
    (ranked_keys 126 _ (by decide) (by decide) (by decide) (by decide) rfl rfl rfl rfl rfl rfl rfl)

theorem ranked_hash3 : Ranked rank 133 (hash3 (F := F) main_call0.v5 main_call0.v7 main_call0_call0) := by
  unfold hash3
  exact Ranked.append (Ranked.append (Ranked.append (Ranked.append (ranked_round 133 _ _ (by decide) (by decide) rfl rfl rfl rfl rfl rfl rfl rfl rfl) (n := 142) rfl
    (ranked_round 142 _ _ (by decide) (by decide) rfl rfl rfl rfl rfl rfl rfl rfl rfl)) (n := 151) rfl
    (ranked_round 151 _ _ (by decide) (by decide) rfl rfl rfl rfl rfl rfl rfl rfl rfl)) (n := 160) rfl
    (ranked_round 160 _ _ (by decide) (by decide) rfl rfl rfl rfl rfl rfl rfl rfl rfl)) (n := 169) rfl
    (ranked_keys 169 _ (by decide) (by decide) (by decide) (by decide) rfl rfl rfl rfl rfl rfl rfl)

theorem ranked_hash4 : Ranked rank 176 (hash4 (F := F) main_call0.v7 main_call0_call0) := by
  unfold hash4
  exact Ranked.append (Ranked.append (Ranked.append (Ranked.append (ranked_round 176 _ _ (by decide) (by decide) rfl rfl rfl rfl rfl rfl rfl rfl rfl) (n := 185) rfl
    (ranked_round 185 _ _ (by decide) (by decide) rfl rfl rfl rfl rfl rfl rfl rfl rfl)) (n := 194) rfl
    (ranked_round 194 _ _ (by decide) (by decide) rfl rfl rfl rfl rfl rfl rfl rfl rfl)) (n := 203) rfl
    (ranked_round 203 _ _ (by decide) (by decide) rfl rfl rfl rfl rfl rfl rfl rfl rfl)) (n := 212) rfl
    (ranked_keys 212 _ (by decide) (by decide) (by decide) (by decide) rfl rfl rfl rfl rfl rfl rfl)

theorem ranked_hash5 : Ranked rank 219 (hash5 (F := F) main_call0.v5 main_call0_call0) := by
  unfold hash5
  exact Ranked.append (Ranked.append (Ranked.append (Ranked.append (ranked_round 219 _ _ (by decide) (by decide) rfl rfl rfl rfl rfl rfl rfl rfl rfl) (n := 228) rfl
    (ranked_round 228 _ _ (by decide) (by decide) rfl rfl rfl rfl rfl rfl rfl rfl rfl)) (n := 237) rfl
    (ranked_round 237 _ _ (by decide) (by decide) rfl rfl rfl rfl rfl rfl rfl rfl rfl)) (n := 246) rfl
    (ranked_round 246 _ _ (by decide) (by decide) rfl rfl rfl rfl rfl rfl rfl rfl rfl)) (n := 255) rfl
    (ranked_keys 255 _ (by decide) (by decide) (by decide) (by decide) rfl rfl rfl rfl rfl rfl rfl)

theorem ranked_key : Ranked rank 1 (keyOps (F := F)) := by
  unfold keyOps
  repeat first
    | exact .nil _
    | refine .cons (step_binary _ _ _ _ _ _ _ rfl (by decide) (by decide)) ?_
    | refine .cons (step_unary _ _ _ _ _ rfl (by decide)) ?_
    | refine .cons (step_nullary _ _ _ rfl) ?_
    | refine .cons (step_reshape _ _ _ _ _ _ rfl (by decide)) ?_
    | refine .cons (step_quaternary _ _ _ _ _ _ _ _ _ _ _ rfl (by decide) (by decide) (by decide) (by decide)) ?_

theorem ranked_counters : Ranked rank 13 (counters (F := F) (.of main_v6) (.of main_cst) (.of main_cst_2) main_call0) := by
  unfold counters
  repeat first
    | exact .nil _
    | refine .cons (step_binary _ _ _ _ _ _ _ rfl (by decide) (by decide)) ?_
    | refine .cons (step_unary _ _ _ _ _ rfl (by decide)) ?_
    | refine .cons (step_nullary _ _ _ rfl) ?_
    | refine .cons (step_reshape _ _ _ _ _ _ rfl (by decide)) ?_
    | refine .cons (step_quaternary _ _ _ _ _ _ _ _ _ _ _ rfl (by decide) (by decide) (by decide) (by decide)) ?_

theorem ranked_hashStart : Ranked rank 40 (hashStart (F := F) main_call0.v5 main_call0.v7 main_call0.v22 main_call0.v21 main_call0_call0) := by
  unfold hashStart
  repeat first
    | exact .nil _
    | refine .cons (step_binary _ _ _ _ _ _ _ rfl (by decide) (by decide)) ?_
    | refine .cons (step_unary _ _ _ _ _ rfl (by decide)) ?_
    | refine .cons (step_nullary _ _ _ rfl) ?_
    | refine .cons (step_reshape _ _ _ _ _ _ rfl (by decide)) ?_
    | refine .cons (step_quaternary _ _ _ _ _ _ _ _ _ _ _ rfl (by decide) (by decide) (by decide) (by decide)) ?_

theorem ranked_scaled : Ranked rank 262 (scaled (F := F) main_call0) := by
  unfold scaled
  repeat first
    | exact .nil _
    | refine .cons (step_binary _ _ _ _ _ _ _ rfl (by decide) (by decide)) ?_
    | refine .cons (step_unary _ _ _ _ _ rfl (by decide)) ?_
    | refine .cons (step_nullary _ _ _ rfl) ?_
    | refine .cons (step_reshape _ _ _ _ _ _ rfl (by decide)) ?_
    | refine .cons (step_quaternary _ _ _ _ _ _ _ _ _ _ _ rfl (by decide) (by decide) (by decide) (by decide)) ?_

theorem ranked_soft : Ranked rank 280 (softOps (F := F)) := by
  unfold softOps
  repeat first
    | exact .nil _
    | refine .cons (step_binary _ _ _ _ _ _ _ rfl (by decide) (by decide)) ?_
    | refine .cons (step_unary _ _ _ _ _ rfl (by decide)) ?_
    | refine .cons (step_nullary _ _ _ rfl) ?_
    | refine .cons (step_reshape _ _ _ _ _ _ rfl (by decide)) ?_
    | refine .cons (step_quaternary _ _ _ _ _ _ _ _ _ _ _ rfl (by decide) (by decide) (by decide) (by decide)) ?_

theorem ranked_argmax : Ranked rank 311 (argmaxOps (F := F) (.of main_v31) main_call1) := by
  unfold argmaxOps
  repeat first
    | exact .nil _
    | refine .cons (step_binary _ _ _ _ _ _ _ rfl (by decide) (by decide)) ?_
    | refine .cons (step_unary _ _ _ _ _ rfl (by decide)) ?_
    | refine .cons (step_nullary _ _ _ rfl) ?_
    | refine .cons (step_reshape _ _ _ _ _ _ rfl (by decide)) ?_
    | refine .cons (step_quaternary _ _ _ _ _ _ _ _ _ _ _ rfl (by decide) (by decide) (by decide) (by decide)) ?_

theorem ranked_oneHot : Ranked rank 316 (oneHotOps (F := F) (.of main_v32) main_call2) := by
  unfold oneHotOps
  repeat first
    | exact .nil _
    | refine .cons (step_binary _ _ _ _ _ _ _ rfl (by decide) (by decide)) ?_
    | refine .cons (step_unary _ _ _ _ _ rfl (by decide)) ?_
    | refine .cons (step_nullary _ _ _ rfl) ?_
    | refine .cons (step_reshape _ _ _ _ _ _ rfl (by decide)) ?_
    | refine .cons (step_quaternary _ _ _ _ _ _ _ _ _ _ _ rfl (by decide) (by decide) (by decide) (by decide)) ?_

theorem ranked_through : Ranked rank 322 (throughOps (F := F)) := by
  unfold throughOps
  repeat first
    | exact .nil _
    | refine .cons (step_binary _ _ _ _ _ _ _ rfl (by decide) (by decide)) ?_
    | refine .cons (step_unary _ _ _ _ _ rfl (by decide)) ?_
    | refine .cons (step_nullary _ _ _ rfl) ?_
    | refine .cons (step_reshape _ _ _ _ _ _ rfl (by decide)) ?_
    | refine .cons (step_quaternary _ _ _ _ _ _ _ _ _ _ _ rfl (by decide) (by decide) (by decide) (by decide)) ?_

theorem ranked_ops : Ranked rank 1 (ops (F := F)) := by
  unfold ops uniformOps hashOps
  simp only [List.append_assoc]
  exact ranked_key.append (n := 13) rfl <| ranked_counters.append (n := 40) rfl <| ranked_hashStart.append (n := 47) rfl <|
    ranked_hash1.append (n := 90) rfl <| ranked_hash2.append (n := 133) rfl <| ranked_hash3.append (n := 176) rfl <|
    ranked_hash4.append (n := 219) rfl <| ranked_hash5.append (n := 262) rfl <| ranked_scaled.append (n := 280) rfl <|
    ranked_soft.append (n := 311) rfl <| ranked_argmax.append (n := 316) rfl <| ranked_oneHot.append (n := 322) rfl ranked_through

/-! ## The run -/

theorem no_scoped_refs : (Finset.univ.filter fun b : Ref sig .tc => b.isScoped) = ∅ := by decide
theorem no_scoped_sems : (Finset.univ.filter fun sm : SemLoc sig => sm.isScoped .tc) = ∅ := by decide

/-- The reference's contents at the end. -/
def last (m : (ℓ : Loc nD τ sig) → Buf (Elt F) ℓ) (d : Dev nD) : Valuation τ sig (Elt F) := after ops (launchContents m d)

/-- The reference runs to contents that each of its operations settles, with its argument unchanged and no counter moved. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = last m d (b : DevRef τ sig)) ∧ r.2.sem = fun _ => 0 :=
  θ_run_mono (run_hlo defs main (ops := ops) main_eq no_scoped_refs no_scoped_sems ranked_ops.sub ranked_ops.fresh m ρ)
    fun r h => ⟨h, sem_eq_zero_of_no_sems rfl r.2⟩

theorem last_arg (m : (ℓ : Loc nD τ sig) → Buf (Elt F) ℓ) (d : Dev nD) :
    last m d (main_arg0 : DevRef τ sig) = m ((d.tc : Thread nD τ).loc main_arg0) :=
  ranked_ops.keeps (launchContents m d) main_arg0 (by decide)

theorem last_settled (m : (ℓ : Loc nD τ sig) → Buf (Elt F) ℓ) (d : Dev nD) : ∀ op ∈ ops, op.result (last m d) = last m d :=
  ranked_ops.settled (launchContents m d)

end Cert.Ref

end
-- ==== Proof.Frames.lean ====
module

public import proofs.«01_k».proof.Defs
public import proofs.«01_k».proof.Proof.Gen.Kernel
public import proofs.«01_k».proof.Proof.MainRun
public import proofs.«01_k».proof.Proof.RefLine

@[expose] public section

/-! # The frames

  Each program ends with its argument as it was and every counter at zero. -/

noncomputable section

namespace Cert.Proof

open Idealize.ShloMosaic Idealize.ShloMosaic.TcCoe Idealize.SL.Sem

variable {F : FTy → Type} [FloatOps F] [∀ e, Nonempty (Elt F e)]

theorem frame_any (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (Cert.KernelIdeal.threads (F := F)) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run _ _ _).mono (fun _ h => ⟨fun c => (h.1 c).1, h.2⟩) (Run.run_main (F := F) m g)

/-- The two prints of the kernel bind the same bodies to the same labels. -/
theorem bodies_eq : @Cert.Kernel.defs₀ Bits _ _ = @Cert.KernelIdeal.defs₀ Bits _ _ := by
  funext p l a
  match p, l, a with
  | .scVector _ _, 0, _ => rfl
  | .tc, 1, (_, _) => rfl
  | .tc, 2, (_, _) => rfl
  | .scVector _ _, 1, _ => rfl
  | .scVector _ _, 2, _ => rfl
  | .tc, 0, _ => rfl
  | .scScalar _, _, _ => rfl

theorem defs_eq : Cert.Kernel.defs (F := Bits) = Cert.KernelIdeal.defs (F := Bits) := by
  unfold Cert.Kernel.defs Cert.KernelIdeal.defs
  rw [bodies_eq]
  rfl

theorem frame_kernel : Cert.quiescent_Kernel := by
  intro m ρ _
  rw [defs_eq]
  exact frame_any (F := Bits) m ρ

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run _ _ _).mono (fun _ h => ⟨fun c => (h.1 c _).trans (Ref.last_arg m c), h.2⟩) (Ref.run_main (F := Ideal) m g)

end Cert.Proof

end
-- ==== Proof.RefHash.lean ====
module

public import proofs.«01_k».proof.Proof.RefLine
public import proofs.«01_k».proof.Proof.Hash

@[expose] public section

/-! # The reference's random words

  The reference hashes its counters with the rounds of `Proof/Hash.lean`, a whole array at a time. Read at an
  element of the settled contents, each round is `mix` and each addition of key words is `inj`, so the words are
  the hash of the element's position. -/

noncomputable section

namespace Cert.Ref

open Idealize.ShloMosaic Idealize.ShloMosaic.TcCoe Idealize.ShloMosaic.StableHlo Idealize.SL.Sem
open Cert.ReferenceIdeal Cert.ReferenceIdeal.Gen Cert.Line Cert.Hash

variable {F : FTy → Type} [FloatOps F] {W : Valuation τ sig (Elt F)}

/-- The contents `W` satisfy each of the operations. -/
def Settled (W : Valuation τ sig (Elt F)) (l : List (HloOp τ sig (Elt F))) : Prop := ∀ op ∈ l, op.result W = W

theorem Settled.left {l l' : List (HloOp τ sig (Elt F))} (h : Settled W (l ++ l')) : Settled W l :=
  fun op hop => h op (List.mem_append_left _ hop)

theorem Settled.right {l l' : List (HloOp τ sig (Elt F))} (h : Settled W (l ++ l')) : Settled W l' :=
  fun op hop => h op (List.mem_append_right _ hop)

theorem val_round {x y x1 : Words} {ca : Word0} {ba l : Words} {cb : Word0} {bb s o y1 : Words} {r r' : BitVec 32}
    (h : Settled W (round x y x1 ca ba l cb bb s o y1 r r')) (i : S128x32x8192.Idx) :
    ((val W x1 i, val W y1 i) : St) = mix .host r r' (val W x i, val W y i) := by
  simp only [Settled, round, List.forall_mem_cons] at h
  obtain ⟨h0, h1, h2, h3, h4, h5, h6, h7, h8, -⟩ := h
  rw [val_binary h8, val_binary h7, val_binary h6, val_binary h3, val_binary h0, val_unary h5, val_unary h2,
    val_nullary h4, val_nullary h1]
  rfl

theorem val_keys {ka kb : Word0} {x y b1 x1 b2 t : Words} {c : Word0} {b3 y1 : Words} {n : BitVec 32} {a b : BitVec 32}
    (h : Settled W (keys ka kb x y b1 x1 b2 t c b3 y1 n)) (ha : val W ka = fun _ => a) (hb : val W kb = fun _ => b)
    (i : S128x32x8192.Idx) :
    ((val W x1 i, val W y1 i) : St) = inj a (b + n) (val W x i, val W y i) := by
  simp only [Settled, keys, List.forall_mem_cons] at h
  obtain ⟨h0, h1, h2, h3, h4, h5, h6, -⟩ := h
  rw [val_binary h6, val_binary h3, val_binary h1, val_unary h5, val_unary h2, val_unary h0, val_nullary h4, ha, hb]
  exact Prod.ext rfl (BitVec.add_assoc _ _ _)

section

variable {arg0 arg1 : Word0} {arg2 arg3 : Words} {φ : fn_threefry2x32.Bufs}

/-- Under the key `(0, 42)`, from the counter `(0, x)`, the reference's hash is the kernel's of `x + 42`. -/
theorem val_hash (h : Settled W (hashOps arg0 arg1 arg2 arg3 φ)) (h0 : val W arg0 = fun _ => 0#32)
    (h1 : val W arg1 = fun _ => 42#32) (i : S128x32x8192.Idx) (h2 : val W arg2 i = 0#32) :
    IntOp.xori (val W φ.v171 i) (val W φ.v175 i) = hash .vector (val W arg3 i + 42#32) := by
  unfold hashOps at h
  have e5 := h.right
  have e4 := h.left.right
  have e3 := h.left.left.right
  have e2 := h.left.left.left.right
  have e1 := h.left.left.left.left.right
  have e0 := h.left.left.left.left.left
  simp only [Settled, hashStart, List.forall_mem_cons] at e0
  obtain ⟨k0, k1, k2, k3, k4, k5, k6, -⟩ := e0
  have hv : val W φ.v1 = fun _ => 466689008#32 := by
    rw [val_binary k2, val_binary k0, val_nullary k1, h0, h1]
    exact funext fun _ => (by decide : IntOp.xori (IntOp.xori 0#32 42#32) 466688986#32 = 466689008#32)
  have s0 : ((val W φ.v3 i, val W φ.v5 i) : St) = (0#32, val W arg3 i + 42#32) := by
    rw [val_binary k4, val_binary k6, val_unary k3, val_unary k5, h0, h1]
    exact Prod.ext (by show val W arg2 i + 0#32 = 0#32; rw [h2]; rfl) rfl
  unfold hash1 at e1; unfold hash2 at e2; unfold hash3 at e3; unfold hash4 at e4; unfold hash5 at e5
  have t1 := (val_keys e1.right h1 hv i).trans (congrArg _ ((val_round e1.left.right i).trans (congrArg _
    ((val_round e1.left.left.right i).trans (congrArg _ ((val_round e1.left.left.left.right i).trans (congrArg _
    ((val_round e1.left.left.left.left i).trans (congrArg _ s0)))))))))
  have t2 := (val_keys e2.right hv h0 i).trans (congrArg _ ((val_round e2.left.right i).trans (congrArg _
    ((val_round e2.left.left.right i).trans (congrArg _ ((val_round e2.left.left.left.right i).trans (congrArg _
    ((val_round e2.left.left.left.left i).trans (congrArg _ t1)))))))))
  have t3 := (val_keys e3.right h0 h1 i).trans (congrArg _ ((val_round e3.left.right i).trans (congrArg _
    ((val_round e3.left.left.right i).trans (congrArg _ ((val_round e3.left.left.left.right i).trans (congrArg _
    ((val_round e3.left.left.left.left i).trans (congrArg _ t2)))))))))
  have t4 := (val_keys e4.right h1 hv i).trans (congrArg _ ((val_round e4.left.right i).trans (congrArg _
    ((val_round e4.left.left.right i).trans (congrArg _ ((val_round e4.left.left.left.right i).trans (congrArg _
    ((val_round e4.left.left.left.left i).trans (congrArg _ t3)))))))))
  have t5 := (val_keys e5.right hv h0 i).trans (congrArg _ ((val_round e5.left.right i).trans (congrArg _
    ((val_round e5.left.left.right i).trans (congrArg _ ((val_round e5.left.left.left.right i).trans (congrArg _
    ((val_round e5.left.left.left.left i).trans (congrArg _ t4)))))))))
  rw [show IntOp.xori (val W φ.v171 i) (val W φ.v175 i)
    = (fun p : St => IntOp.xori p.1 p.2) (val W φ.v171 i, val W φ.v175 i) from rfl, t5, ← hash_unit .host]
  have f : ∀ x : BitVec 32, mix .host 13#32 19#32 (0#32, x) = first .host x := fun x => by
    show (0#32 + x, twist _ _ _ (0#32 + x) x) = _
    rw [BitVec.zero_add]; rfl
  rw [f]
  rfl

end

section

variable {arg0 : TRef sig ⟨S2, .i32⟩} {arg1 arg2 : TRef sig ⟨S_, .f32⟩} {φ : fn_uniform.Bufs}

/-- An element's position in the array. -/
def position (i : S128x32x8192.Idx) : ℕ := 262144 * (i 0).val + 8192 * (i 1).val + (i 2).val

theorem position_lt (i : S128x32x8192.Idx) : position i < 2 ^ 25 := by
  have h0 : (i 0).val < 128 := (i 0).isLt
  have h1 : (i 1).val < 32 := (i 1).isLt
  have h2 : (i 2).val < 8192 := (i 2).isLt
  unfold position; omega

/-- The counters: high word zero, low word the position. -/
theorem val_counters (h : Settled W (counters arg0 arg1 arg2 φ)) (i : S128x32x8192.Idx) :
    val W φ.v22 i = 0#32 ∧ val W φ.v21 i = BitVec.ofNat 32 (position i) := by
  simp only [Settled, counters, List.forall_mem_cons] at h
  obtain ⟨-, -, -, -, -, -, -, -, h8, h9, h10, c0, h11, h12, c1, h13, h14, c2, h15, h16, h17, h18, c3, h19, h20, h21, h22, -⟩ := h
  have e : val W φ.v18 i = BitVec.ofNat 64 (position i) := by
    rw [val_binary h18, val_binary h17, val_binary h12, val_binary h14, val_binary h16, val_unary h11, val_unary h13,
      val_unary h15, val_nullary c0, val_nullary c1, val_nullary c2, val_nullary h8, val_nullary h9, val_nullary h10]
    show 262144#64 * BitVec.ofNat 64 (i 0).val + 8192#64 * BitVec.ofNat 64 (i 1).val + 1#64 * BitVec.ofNat 64 (i 2).val = _
    rw [← BitVec.ofNat_mul, ← BitVec.ofNat_mul, ← BitVec.ofNat_mul, ← BitVec.ofNat_add, ← BitVec.ofNat_add, one_mul]
    rfl
  have hp := position_lt i
  constructor
  · rw [val_unary h22, val_binary h20, val_unary h19, val_nullary c3]
    show (IntOp.shrui .host (val W φ.v18 i) 32#64).setWidth 32 = 0#32
    rw [e]
    apply BitVec.eq_of_toNat_eq
    simp [IntOp.shrui, Nat.shiftRight_eq_div_pow]
    omega
  · rw [val_unary h21]
    show (val W φ.v18 i).setWidth 32 = _
    rw [e]
    apply BitVec.eq_of_toNat_eq
    simp

end

/-- The place `k` of a pair. -/
def pairAt (k : Fin 2) : S2.Idx := fun
  | ⟨0, _⟩ => k
  | ⟨_ + 1, h⟩ => absurd h (Nat.not_lt.2 (Nat.le_add_left _ _))

/-- The key's two words: zero, and the seed. -/
theorem val_key (h : Settled W (keyOps (F := F))) :
    (W main_v6 : S2.Idx → BitVec 32) (pairAt 0) = 0#32 ∧ (W main_v6 : S2.Idx → BitVec 32) (pairAt 1) = 42#32 := by
  simp only [Settled, keyOps, List.forall_mem_cons] at h
  obtain ⟨h0, h1, h2, h3, h4, h5, h6, h7, h8, h9, -⟩ := h
  have e0 := (congrFun h0 main_c).symm.trans (nullary_result ..)
  have e1 := (congrFun h1 main_c_0).symm.trans (nullary_result ..)
  have e2 := (congrFun h2 main_v0).symm.trans (binary_result ..)
  have e3 := (congrFun h3 main_v1).symm.trans (unary_result ..)
  have e4 := (congrFun h4 main_v2).symm.trans (unary_result ..)
  have e5 := (congrFun h5 main_c_1).symm.trans (nullary_result ..)
  have e6 := (congrFun h6 main_v3).symm.trans (binary_result ..)
  have e7 := (congrFun h7 main_v4).symm.trans (unary_result ..)
  have e8 := (congrFun h8 main_v5).symm.trans (unary_result ..)
  have e9 := (congrFun h9 main_v6).symm.trans (binary_result ..)
  rw [e9, e4, e3, e2, e0, e1, e8, e7, e6, e0, e5]
  constructor
  · show IntOp.shrui .host 42#32 32#32 = 0#32
    decide
  · show IntOp.andi 42#32 4294967295#32 = 42#32
    decide

/-- The words handed to the hash are the key's. -/
theorem val_key_words (h : Settled W (counters (F := F) (.of main_v6) (.of main_cst) (.of main_cst_2) main_call0)) (i : S_.Idx) :
    val W main_call0.v5 i = (W main_v6 : S2.Idx → BitVec 32) (pairAt 0)
    ∧ val W main_call0.v7 i = (W main_v6 : S2.Idx → BitVec 32) (pairAt 1) := by
  simp only [Settled, counters, List.forall_mem_cons] at h
  obtain ⟨-, -, -, -, h4, h5, h6, h7, -⟩ := h
  have e5 := (congrFun h5 main_call0.v5.ref).symm.trans (reshape_result ..)
  have e7 := (congrFun h7 main_call0.v7.ref).symm.trans (reshape_result ..)
  have f4 := val_unary h4
  have f6 := val_unary h6
  have hz : ∀ (q : S1.Idx) (a), (q a).val = 0 := fun q a => by
    match a with
    | ⟨0, _⟩ => exact Nat.lt_one_iff.1 (q 0).isLt
  constructor
  · show (W main_call0.v5.ref : S_.Idx → BitVec 32) i = _
    rw [e5]
    show (val W main_call0.v4) _ = _
    rw [f4]
    refine congrArg (W main_v6 : S2.Idx → BitVec 32) (funext fun a => Fin.ext ?_)
    match a with
    | ⟨0, _⟩ => exact congrArg (0 + ·) (hz _ _)
  · show (W main_call0.v7.ref : S_.Idx → BitVec 32) i = _
    rw [e7]
    show (val W main_call0.v6) _ = _
    rw [f6]
    refine congrArg (W main_v6 : S2.Idx → BitVec 32) (funext fun a => Fin.ext ?_)
    match a with
    | ⟨0, _⟩ => exact congrArg (1 + ·) (hz _ _)

/-- The reference's random word of an element. -/
theorem val_word (h : Settled W (ops (F := F))) (i : S128x32x8192.Idx) :
    IntOp.xori (val W main_call0_call0.v171 i) (val W main_call0_call0.v175 i)
      = hash .vector (BitVec.ofNat 32 (position i) + 42#32) := by
  have hk := h.left.left.left.left.left
  have hu := h.left.left.left.left.right
  have hc := hu.left.left
  have key := val_key hk
  rw [← (val_counters hc i).2]
  refine val_hash hu.left.right ?_ ?_ i (val_counters hc i).1
  · exact funext fun k => (val_key_words hc k).1.trans key.1
  · exact funext fun k => (val_key_words hc k).2.trans key.2

end Cert.Ref

end
-- ==== Proof.Noise.lean ====
module

public import proofs.«01_k».proof.Proof.Hash
public import Idealize.ShloMosaic.PureOps.Ideal.Laws

@[expose] public section

/-! # The Gumbel noise over the reals

  A random word's top bits are the fraction of a number of `[1, 2)`; taking one away leaves a uniform variate below
  `1 - 2⁻²³`, and adding a floor below `2⁻²³` keeps it inside the unit interval. So its logarithm is a negative real, the
  logarithm of that negated is a real, and the noise is finite. -/

noncomputable section

namespace Cert.Noise

open Idealize.ShloMosaic Cert.Hash

theorem ofBits_one : Ideal.ofBits .f32 0x3F800000#32 = ((1 : ℝ) : EReal) := by
  simp [Ideal.ofBits, Ideal.ieee]
  norm_cast
  norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- The floor. -/
def tiny : ℝ := (14411519 : ℝ) * 2 ^ (-57 : ℤ)

theorem ofBits_tiny : Ideal.ofBits .f32 0x2EDBE6FF#32 = (tiny : EReal) := by
  simp [Ideal.ofBits, Ideal.ieee, tiny]

theorem tiny_pos : 0 < tiny := by unfold tiny; positivity

theorem tiny_lt : tiny < 1 / 2 ^ 23 := by
  unfold tiny
  rw [zpow_neg]
  norm_num

/-- The number of `[1, 2)` with a word's top bits for its fraction. -/
theorem ofBits_word (b : BitVec 32) : ∃ n : ℕ, n < 2 ^ 23 ∧
    Ideal.ofBits .f32 (IntOp.ori (IntOp.shrui .vector b 9#32) 1065353216#32) = ((1 + n / 2 ^ 23 : ℝ) : EReal) := by
  have hb : b.toNat < 2 ^ 32 := b.isLt
  have hn : (b >>> 9).toNat < 2 ^ 23 := by simp [Nat.shiftRight_eq_div_pow]; omega
  refine ⟨(b >>> 9).toNat, hn, ?_⟩
  have e : (IntOp.ori (IntOp.shrui .vector b 9#32) 1065353216#32) = (b >>> 9) ||| 1065353216#32 := rfl
  rw [e]
  generalize b >>> 9 = c at hn
  have hw : (c ||| 1065353216#32).toNat = 2 ^ 23 * 127 + c.toNat := by
    rw [Nat.two_pow_add_eq_or_of_lt hn, BitVec.toNat_or, Nat.or_comm]; rfl
  have h1 : ((c ||| 1065353216#32).extractLsb' 31 1 == 1#1) = false := by
    rw [beq_eq_false_iff_ne]
    intro h
    have := congrArg BitVec.toNat h
    rw [BitVec.extractLsb'_toNat, hw, Nat.shiftRight_eq_div_pow] at this
    simp at this; omega
  have h2 : ((c ||| 1065353216#32).extractLsb' 23 8).toNat = 127 := by
    rw [BitVec.extractLsb'_toNat, hw, Nat.shiftRight_eq_div_pow]; omega
  have h3 : ((c ||| 1065353216#32).extractLsb' 0 23).toNat = c.toNat := by
    rw [BitVec.extractLsb'_toNat, hw, Nat.shiftRight_eq_div_pow]; omega
  unfold Ideal.ofBits Ideal.ieee
  simp only [h1, h2, h3, Nat.reduceAdd]
  rw [if_neg (by decide), if_neg (by decide)]
  refine congrArg Real.toEReal ?_
  push_cast
  norm_num
  ring

/-- The uniform variate. -/
theorem uniform (b : BitVec 32) : ∃ a u : ℝ, 0 ≤ a ∧ 0 < u ∧ u < 1 ∧ u = max tiny (a + tiny) ∧
    Ideal.ofBits .f32 (IntOp.ori (IntOp.shrui .vector b 9#32) 1065353216#32) = ((1 + a : ℝ) : EReal) := by
  obtain ⟨n, hn, e⟩ := ofBits_word b
  have hn' : (n : ℝ) ≤ 2 ^ 23 - 1 := by
    have : n + 1 ≤ 2 ^ 23 := hn
    have : ((n + 1 : ℕ) : ℝ) ≤ ((2 ^ 23 : ℕ) : ℝ) := Nat.cast_le.2 this
    push_cast at this; linarith
  have ha : (0 : ℝ) ≤ n / 2 ^ 23 := by positivity
  refine ⟨n / 2 ^ 23, max tiny (n / 2 ^ 23 + tiny), ha, lt_max_of_lt_left tiny_pos, ?_, rfl, e⟩
  have h1 : (n : ℝ) / 2 ^ 23 ≤ 1 - 1 / 2 ^ 23 := by
    rw [div_le_iff₀ (by positivity)]; linarith [show (1 - 1 / 2 ^ 23 : ℝ) * 2 ^ 23 = 2 ^ 23 - 1 by norm_num]
  have := tiny_lt
  exact max_lt (by linarith [show (1 / 2 ^ 23 : ℝ) < 1 by norm_num]) (by linarith)

theorem log_coe {r : ℝ} (h : 0 < r) : Ideal.log (r : EReal) = (Real.log r : EReal) := by
  show (if r ≤ 0 then ⊥ else (Real.log r : EReal)) = _
  rw [if_neg (not_le.2 h)]

/-- The noise of a random word. -/
def gumbel (b : BitVec 32) : ℝ :=
  -Real.log (-Real.log (max tiny ((Ideal.ofBits .f32 (IntOp.ori (IntOp.shrui .vector b 9#32) 1065353216#32)).toReal - 1 + tiny)))

/-- The kernel's value: the logit and the noise. -/
theorem noisy_eq (x : EReal) (b : BitVec 32) : noisy (F := Ideal) x b = x + (gumbel b : EReal) := by
  obtain ⟨a, u, ha, h0, h1, hu, e⟩ := uniform b
  unfold gumbel
  show x + (Ideal.ofBits .f32 0x00000000#32 - Ideal.log (Ideal.ofBits .f32 0x00000000#32 - Ideal.log
    (max (Ideal.ofBits .f32 0x2EDBE6FF#32)
      ((Ideal.ofBits .f32 (IntOp.ori (IntOp.shrui .vector b 9#32) 1065353216#32) - Ideal.ofBits .f32 0x3F800000#32)
        * Ideal.ofBits .f32 0x3F800000#32 + Ideal.ofBits .f32 0x2EDBE6FF#32)))) = _
  rw [e, ofBits_one, ofBits_tiny, Ideal.ofBits_zero_f32, EReal.toReal_coe, ← EReal.coe_sub, ← EReal.coe_mul, ← EReal.coe_add,
    ← EReal.coe_strictMono.monotone.map_max, mul_one, add_sub_cancel_left, ← hu, log_coe h0, zero_sub, zero_sub,
    ← EReal.coe_neg, log_coe (neg_pos.2 (Real.log_neg h0 h1)), ← EReal.coe_neg]

/-- The reference's: a variate scaled to the interval from zero to one and by one, the same floor, the same logarithms. -/
theorem reference_eq (b : BitVec 32) :
    -Ideal.log (-Ideal.log (max (Ideal.ofBits .f32 0x2EDBE6FF#32)
      (max (Ideal.ofBits .f32 0x00000000#32)
        ((Ideal.ofBits .f32 (IntOp.ori (IntOp.shrui .vector b 9#32) 1065353216#32) - Ideal.ofBits .f32 0x3F800000#32)
          * (Ideal.ofBits .f32 0x3F800000#32 - Ideal.ofBits .f32 0x00000000#32) + Ideal.ofBits .f32 0x00000000#32)
        * Ideal.ofBits .f32 0x3F800000#32 + Ideal.ofBits .f32 0x2EDBE6FF#32))) = (gumbel b : EReal) := by
  obtain ⟨a, u, ha, h0, h1, hu, e⟩ := uniform b
  unfold gumbel
  rw [e, ofBits_one, ofBits_tiny, Ideal.ofBits_zero_f32, sub_zero, add_zero, EReal.toReal_coe, ← EReal.coe_sub, ← EReal.coe_mul,
    mul_one, add_sub_cancel_left, max_eq_right (EReal.coe_nonneg.2 ha), ← EReal.coe_mul, ← EReal.coe_add,
    ← EReal.coe_strictMono.monotone.map_max, mul_one, ← hu, log_coe h0,
    ← EReal.coe_neg, log_coe (neg_pos.2 (Real.log_neg h0 h1)), ← EReal.coe_neg]

end Cert.Noise

end
-- ==== Proof.First.lean ====
module

public import proofs.«01_k».proof.Proof.Noise
public import Idealize.ShloMosaic.Lib.ValueIdxCore
public import Idealize.ShloMosaic.Lib.Pipeline.Value

@[expose] public section

/-! # The first greatest element of a row

  Both programs mark, in each row, the first position of the row's greatest element. The kernel finds it as the least
  position whose element equals the row's maximum. -/

noncomputable section

namespace Cert.First

open Idealize.ShloMosaic Idealize.ShloMosaic.ValueIdx
open Cert.KernelIdeal Cert.KernelIdeal.Gen

section

variable {n : ℕ} {α β : Type} [LinearOrder α] [LinearOrder β]

/-- `k` is the first position of `z`'s greatest element. -/
def IsFirst (z : Fin n → α) (k : Fin n) : Prop := (∀ j, z j ≤ z k) ∧ ∀ j, z j = z k → k ≤ j

theorem exists_first (hn : 0 < n) (z : Fin n → α) : ∃ k, IsFirst z k := by
  obtain ⟨m, -, hm⟩ := Finset.exists_max_image Finset.univ z ⟨⟨0, hn⟩, Finset.mem_univ _⟩
  obtain ⟨k, hk, hmin⟩ := Finset.exists_min_image (Finset.univ.filter fun j => z j = z m) id ⟨m, by simp⟩
  have e : z k = z m := (Finset.mem_filter.1 hk).2
  exact ⟨k, fun j => e ▸ hm j (Finset.mem_univ _), fun j hj => hmin j (by simp [hj, e])⟩

theorem IsFirst.unique {z : Fin n → α} {k k' : Fin n} (h : IsFirst z k) (h' : IsFirst z k') : k = k' := by
  have e : z k = z k' := le_antisymm (h'.1 k) (h.1 k')
  exact le_antisymm (h.2 k' e.symm) (h'.2 k e)

theorem IsFirst.iff {z : Fin n → α} {k : Fin n} (h : IsFirst z k) (k' : Fin n) : IsFirst z k' ↔ k' = k :=
  ⟨fun h' => h'.unique h, fun e => e ▸ h⟩

/-- A strictly increasing function keeps the first greatest element in place. -/
theorem IsFirst.map {z : Fin n → α} {k : Fin n} (h : IsFirst z k) {f : α → β} (hf : StrictMono f) :
    IsFirst (fun j => f (z j)) k :=
  ⟨fun j => hf.monotone (h.1 j), fun j hj => h.2 j (hf.injective hj)⟩

end

/-- A fold one of whose elements absorbs the others is that element. -/
theorem fold_absorb {ι β : Type} (op : β → β → β) [Std.Commutative op] [Std.Associative op] (init : β) (x : ι → β)
    (s : Finset ι) (k : ι) (hk : k ∈ s) (h0 : op (x k) init = x k) (h : ∀ j ∈ s, op (x k) (x j) = x k) :
    s.fold op init x = x k := by
  classical
  rw [← Finset.insert_erase hk, Finset.fold_insert (Finset.notMem_erase _ _)]
  have : ∀ t ⊆ s, op (x k) (t.fold op init x) = x k := fun t => by
    induction t using Finset.induction_on with
    | empty => intro _; exact h0
    | insert a t ha ih =>
      intro hs
      rw [Finset.fold_insert ha, ← Std.Associative.assoc (op := op), h a (hs (Finset.mem_insert_self _ _))]
      exact ih fun b hb => hs (Finset.mem_insert_of_mem hb)
  exact this _ (Finset.erase_subset _ _)

/-- A row of a block. -/
def row (v : S64x8192.Idx → EReal) (r : Fin 64) (c : Fin 8192) : EReal := v (ix2 r c)

theorem lift_block (r : Fin 64) (c : Fin 8192) : (reduces_S64x8192_S64).lift (ix1 r) c = ix2 r c := by
  funext a
  match a with
  | ⟨0, _⟩ => rfl
  | ⟨1, _⟩ => rfl

/-- A row's value, put in a column and repeated along the row, is read back at the row. -/
theorem column_at {α : Type} (w : S64.Idx → α) (r : Fin 64) (c : Fin 8192) :
    broadcastTo S64x8192 (shapeCast S64x1 w shapeCasts_S64_S64x1) broadcasts_S64x1_S64x8192 (ix2 r c) = w (ix1 r) := by
  refine (broadcastTo_apply _ _ _ (ix2 r (0 : Fin 1)) ?_).trans ?_
  · intro a
    match a with
    | ⟨0, _⟩ => rfl
    | ⟨1, _⟩ => rfl
  · refine shapeCast_apply _ _ _ _ ?_
    refine (Shape.rowMajor_val_one _).trans (Eq.trans ?_ (Shape.rowMajor_val_two _).symm)
    show r.val = r.val * 1 + 0
    omega

/-- A row's maximum. -/
theorem max_at (v : S64x8192.Idx → EReal) (r : Fin 64) {k : Fin 8192} (hk : IsFirst (row v r) k) :
    multiReduction (F := Ideal) (φ := .f32) .maximumf [1] S64 v 0xFF800000#32 reduces_S64x8192_S64 (.inl rfl) rfl (ix1 r) = row v r k := by
  refine (Ideal.multiReduction_maximumf_single v _ reduces_S64x8192_S64 (.inl rfl) rfl (ix1 r)).trans ?_
  refine (fold_absorb max _ _ Finset.univ k (Finset.mem_univ _) ?_ ?_).trans ?_
  · exact max_eq_left (Noise.ofBits_bot.le.trans bot_le)
  · intro j _
    refine max_eq_left ?_
    show v _ ≤ v _
    rw [lift_block, lift_block]; exact hk.1 j
  · show v _ = _
    rw [lift_block]; rfl

/-- The least position with the property `p`, positions without it counted as `8192`. -/
theorem min_at (x : IVec S64x8192 32) (r : Fin 64) {k : Fin 8192} (hx : x (ix2 r k) = BitVec.ofNat 32 k.val)
    (h : ∀ j : Fin 8192, ∃ n : ℕ, k.val ≤ n ∧ n ≤ 8192 ∧ x (ix2 r j) = BitVec.ofNat 32 n) :
    multiReductionI .minsi [1] S64 x 2147483647#32 reduces_S64x8192_S64 rfl (ix1 r) = BitVec.ofNat 32 k.val := by
  refine (multiReductionI_eq_fold .minsi x _ reduces_S64x8192_S64 rfl (ix1 r)).trans ?_
  classical
  refine ((reduces_S64x8192_S64).fold_filter_drop_single _ _ _ _).trans ?_
  have hm : ∀ n : ℕ, k.val ≤ n → n ≤ 2147483647 → IntOp.minsi (BitVec.ofNat 32 k.val) (BitVec.ofNat 32 n) = BitVec.ofNat 32 k.val := by
    intro n h1 h2
    have hk : k.val < 8192 := k.isLt
    unfold IntOp.minsi
    rcases Nat.lt_or_ge k.val n with h | h
    · rw [if_pos]
      rw [BitVec.slt, decide_eq_true_iff, BitVec.toInt_eq_toNat_of_lt (by simp; omega), BitVec.toInt_eq_toNat_of_lt (by simp; omega)]
      simp only [BitVec.toNat_ofNat]
      omega
    · rw [Nat.le_antisymm h h1, ite_self]
  refine (fold_absorb _ _ _ Finset.univ k (Finset.mem_univ _) ?_ ?_).trans ?_
  · show IntOp.minsi (x _) _ = x _
    rw [lift_block, hx]
    exact hm 2147483647 (by omega) (by omega)
  · intro j _
    obtain ⟨n, h1, h2, h3⟩ := h j
    show IntOp.minsi (x _) (x _) = x _
    rw [lift_block, lift_block, hx, h3]
    exact hm n h1 (by omega)
  · show x _ = _
    rw [lift_block, hx]

/-- The kernel's one-hot rows. -/
theorem oneHot_at (v : S64x8192.Idx → EReal) (r : Fin 64) (c : Fin 8192) {k : Fin 8192} (hk : IsFirst (row v r) k) :
    k1_pay3 (F := Ideal) v (ix2 r c) = if c = k then 1 else 0 := by
  unfold k1_pay3
  rw [shapeCast_self]
  have e : ∀ j : Fin 8192, select (cmpf (F := Ideal) (φ := .f32) .oeq v (broadcastTo S64x8192 (shapeCast S64x1
      (multiReduction (F := Ideal) (φ := .f32) .maximumf [1] S64 v 0xFF800000#32 reduces_S64x8192_S64 (.inl rfl) rfl) shapeCasts_S64_S64x1)
      broadcasts_S64x1_S64x8192)) (iota .tc S64x8192 32 [1] iota_S64x8192_d1_w32) (broadcast S64x8192 8192#32) (ix2 r j)
      = if row v r j = row v r k then BitVec.ofNat 32 j.val else 8192#32 := by
    intro j
    show (if Ideal.cmp .oeq (row v r j) (broadcastTo S64x8192 _ _ (ix2 r j)) = 1#1 then BitVec.ofNat 32 (0 * 8192 + j.val) else 8192#32) = _
    rw [column_at, max_at v r hk, Nat.zero_mul, Nat.zero_add]
    by_cases h : row v r j = row v r k
    · rw [if_pos h, if_pos]
      show BitVec.ofBool (decide _) = 1#1
      rw [decide_eq_true h]; rfl
    · rw [if_neg h, if_neg]
      show ¬BitVec.ofBool (decide _) = 1#1
      rw [decide_eq_false h]; decide
  have hm := min_at (select (cmpf (F := Ideal) (φ := .f32) .oeq v (broadcastTo S64x8192 (shapeCast S64x1
      (multiReduction (F := Ideal) (φ := .f32) .maximumf [1] S64 v 0xFF800000#32 reduces_S64x8192_S64 (.inl rfl) rfl) shapeCasts_S64_S64x1)
      broadcasts_S64x1_S64x8192)) (iota .tc S64x8192 32 [1] iota_S64x8192_d1_w32) (broadcast S64x8192 8192#32)) r (k := k)
    (by rw [e, if_pos rfl]) (fun j => by
      rw [e]
      by_cases h : row v r j = row v r k
      · exact ⟨j.val, hk.2 j h, by omega, if_pos h⟩
      · exact ⟨8192, by omega, le_rfl, if_neg h⟩)
  have hc := (column_at (multiReductionI .minsi [1] S64 _ 2147483647#32 reduces_S64x8192_S64 rfl) r c).trans hm
  show FloatOps.sitofp .f32 (BitVec.setWidth 32 (IntOp.cmpi .eq (iota .tc S64x8192 32 [1] iota_S64x8192_d1_w32 (ix2 r c)) _)) = _
  rw [hc]
  show ((((BitVec.ofBool (BitVec.ofNat 32 (0 * 8192 + c.val) == BitVec.ofNat 32 k.val)).setWidth 32).toInt : ℝ) : EReal) = _
  have hk' : k.val < 8192 := k.isLt
  have hc' : c.val < 8192 := c.isLt
  by_cases h : c = k
  · rw [if_pos h, h, Nat.zero_mul, Nat.zero_add, beq_self_eq_true]; simp
  · have hb : (BitVec.ofNat 32 (0 * 8192 + c.val) == BitVec.ofNat 32 k.val) = false := by
      rw [beq_eq_false_iff_ne]
      intro he
      have := congrArg BitVec.toNat he
      simp only [BitVec.toNat_ofNat] at this
      exact h (Fin.ext (by omega))
    rw [if_neg h, hb]; simp

end Cert.First

end
-- ==== Proof.KernelValue.lean ====
module

public import proofs.«01_k».proof.Proof.MainRun
public import proofs.«01_k».proof.Proof.First

@[expose] public section

/-! # The kernel's result over the reals

  An element of the result is one at the first greatest element of its row of noisy logits, and zero elsewhere. The rows
  the SparseCore's words serve and those the TensorCore hashes itself get the same noise: each element's word is the hash of
  its position. -/

noncomputable section

namespace Cert.Value

open Idealize.ShloMosaic Idealize.ShloMosaic.ValueIdx
open Cert.KernelIdeal Cert.KernelIdeal.Gen Cert.First Cert.Noise

/-- A row of the logits with its noise. -/
def noisyRow (x : S128x32x8192.Idx → EReal) (a : Fin 128) (b : Fin 32) (c : Fin 8192) : EReal :=
  x (ix3 a b c) + (gumbel (Hash.hash .vector (BitVec.ofNat 32 ((32 * a.val + b.val) * 8192 + 42 + c.val))) : EReal)

variable (m : (ℓ : Loc nD τ sig) → Buf (Elt Ideal) ℓ) (d : Dev nD)

/-- The argument. -/
abbrev arg : S128x32x8192.Idx → EReal := Cert.Proof.Run.ini m d main_arg0

theorem logits_at (a : Fin 128) (b : Fin 32) (c : Fin 8192) (q : S4096x8192.Idx) (h0 : (q 0).val = 32 * a.val + b.val) (h1 : (q 1).val = c.val) :
    Cert.Proof.Run.logits m d q = arg m d (ix3 a b c) := by
  refine shapeCast_apply _ _ _ _ ?_
  refine (Shape.rowMajor_val_three _).trans (Eq.trans ?_ (Shape.rowMajor_val_two _).symm)
  show (a.val * 32 + b.val) * 8192 + c.val = (q 0).val * 8192 + (q 1).val
  omega

theorem result_at (a : Fin 128) (b : Fin 32) (c : Fin 8192) {k : Fin 8192} (hk : IsFirst (noisyRow (arg m d) a b) k) :
    Cert.Proof.Run.result m d (ix3 a b c) = if c = k then 1 else 0 := by
  have ha : a.val < 128 := a.isLt
  have hb : b.val < 32 := b.isLt
  have hR : 32 * a.val + b.val < 4096 := by omega
  have e : Cert.Proof.Run.result m d (ix3 a b c)
      = Cert.Proof.Run.final2 (Cert.Proof.Run.logits m) (Cert.Proof.Run.start2 m) d (ix2 ⟨32 * a.val + b.val, hR⟩ c) := by
    refine shapeCast_apply _ _ _ _ ?_
    refine (Shape.rowMajor_val_two _).trans (Eq.trans ?_ (Shape.rowMajor_val_three _).symm)
    show (32 * a.val + b.val) * 8192 + c.val = (a.val * 32 + b.val) * 8192 + c.val
    omega
  rw [e]
  have hin : Cert.Proof.Run.in64 (ix2 ⟨32 * a.val + b.val, hR⟩ c) = ix2 (⟨(32 * a.val + b.val) % 64, Nat.mod_lt _ (by decide)⟩ : Fin 64) c := by
    funext x
    match x with
    | ⟨0, _⟩ => rfl
    | ⟨1, _⟩ => rfl
  have hX : ∀ j : Fin 8192, Cert.Proof.Run.blkX (Cert.Proof.Run.logits m) d ((32 * a.val + b.val) / 64)
      (ix2 (⟨(32 * a.val + b.val) % 64, Nat.mod_lt _ (by decide)⟩ : Fin 64) j) = arg m d (ix3 a b j) := fun j =>
    logits_at m d a b j _ (by show (64 * ((32 * a.val + b.val) / 64) + (32 * a.val + b.val) % 64) % 4096 = _; omega) rfl
  have final : ∀ v : S64x8192.Idx → EReal,
      (∀ j : Fin 8192, row v ⟨(32 * a.val + b.val) % 64, Nat.mod_lt _ (by decide)⟩ j = noisyRow (arg m d) a b j) →
      k1_pay3 (F := Ideal) v (ix2 (⟨(32 * a.val + b.val) % 64, Nat.mod_lt _ (by decide)⟩ : Fin 64) c) = if c = k then 1 else 0 := fun v hv =>
    oneHot_at v _ c (by rw [show row v _ = noisyRow (arg m d) a b from funext hv]; exact hk)
  by_cases h : 32 * a.val + b.val < 1216
  · refine (if_pos h).trans ?_
    rw [hin]
    refine final _ fun j => ?_
    refine (noisy_eq _ _).trans ?_
    unfold noisyRow
    rw [hX]
    refine congrArg (fun w => arg m d (ix3 a b j) + ((gumbel (Hash.hash .vector (BitVec.ofNat 32 w)) : ℝ) : EReal)) ?_
    show ((64 * ((32 * a.val + b.val) / 64) + (32 * a.val + b.val) % 64) % 1216) * 8192 + 42 + j.val = _
    omega
  · refine (if_neg h).trans ((if_pos (Nat.not_lt.1 h)).trans ?_)
    rw [hin]
    refine final _ fun j => ?_
    refine (noisy_eq _ _).trans ?_
    unfold noisyRow
    rw [hX]
    refine congrArg (fun w => arg m d (ix3 a b j) + ((gumbel (Hash.hash .vector (BitVec.ofNat 32 w)) : ℝ) : EReal)) ?_
    show ((32 * a.val + b.val) / 64 * 64 + (32 * a.val + b.val) % 64) * 8192 + 42 + j.val = _
    omega

end Cert.Value

end
-- ==== Proof.Softmax.lean ====
module

public import proofs.«01_k».proof.Proof.First
public import proofs.«01_k».proof.ReferenceIdeal
public import proofs.«01_k».proof.Proof.Gen.ReferenceIdeal

@[expose] public section

/-! # The reference's reductions over a row

  Over the reals the reference's maximum, sum and index of the greatest element of a row, and its softmax, of a row
  of finite numbers. The softmax's row has its first greatest element where the row itself has. -/

noncomputable section

namespace Cert.Softmax

open Idealize.ShloMosaic Idealize.ShloMosaic.ValueIdx
open Cert.ReferenceIdeal Cert.ReferenceIdeal.Gen Cert.First

theorem reduces_row : S128x32x8192.Reduces [2] S128x32 := by decide

theorem lift_row (a : Fin 128) (b : Fin 32) (c : Fin 8192) : reduces_row.lift (ix2 a b) c = ix3 a b c := by
  funext x
  match x with
  | ⟨0, _⟩ => rfl
  | ⟨1, _⟩ => rfl
  | ⟨2, _⟩ => rfl

theorem drop_row (a : Fin 128) (b : Fin 32) (c : Fin 8192) :
    reducesTo_S128x32x8192_S128x32_d2.drop (ix3 a b c) = ix2 a b := by
  rw [← lift_row]
  exact reduces_row.drop_lift _ _

/-- An index that belongs to a row is one of the row's positions. -/
theorem of_drop {a : Fin 128} {b : Fin 32} {i : S128x32x8192.Idx} (h : reducesTo_S128x32x8192_S128x32_d2.drop i = ix2 a b) :
    ∃ c : Fin 8192, i = ix3 a b c := by
  have e : reduces_row.lift (reduces_row.drop i) (i 2) = i := reduces_row.lift_drop i
  have h' : reduces_row.drop i = ix2 a b := h
  rw [h'] at e
  exact ⟨i 2, e.symm.trans (lift_row a b (i 2))⟩

/-! ## The index of the greatest element -/

/-- One step of the search keeps the pair it holds when that is greater, or as great and earlier. -/
theorem pick_eq (p q : EReal × BitVec 32) : reducer_argmax_f32_i32 (F := Ideal) p q
    = if q.1 < p.1 ∨ (p.1 = q.1 ∧ p.2.slt q.2 = true) then p else q := by
  obtain ⟨x, i⟩ := p
  obtain ⟨y, j⟩ := q
  show (Scalar.select (IntOp.ori (BitVec.ofBool (decide (y < x))) (BitVec.ofBool (decide (x ≠ x)))) x y,
    Scalar.select (IntOp.ori (IntOp.ori (BitVec.ofBool (decide (y < x))) (BitVec.ofBool (decide (x ≠ x))))
      (IntOp.andi (BitVec.ofBool (decide (x = y))) (BitVec.ofBool (i.slt j)))) i j) = _
  rcases lt_trichotomy y x with h | h | h
  · rw [if_pos (.inl h), decide_eq_true h, decide_eq_false (p := x ≠ x) (by simp), decide_eq_false (p := x = y) h.ne']
    cases i.slt j <;> rfl
  · subst h
    rw [decide_eq_false (p := y < y) (lt_irrefl _), decide_eq_false (p := y ≠ y) (by simp), decide_eq_true (p := y = y) rfl]
    by_cases hs : i.slt j = true
    · rw [if_pos (.inr ⟨rfl, hs⟩), hs]; rfl
    · rw [if_neg (by rintro (h | h); exacts [lt_irrefl _ h, hs h.2]), Bool.eq_false_iff.2 hs]; rfl
  · rw [if_neg (by rintro (h' | h'); exacts [lt_asymm h h', h.ne h'.1]), decide_eq_false (p := y < x) (lt_asymm h),
      decide_eq_false (p := x ≠ x) (by simp), decide_eq_false (p := x = y) h.ne]
    cases i.slt j <;> rfl

/-- A search whose steps keep one of their two pairs ends at a pair that every step keeps. -/
theorem search_eq {β : Type} (f : β → β → β) (P : β → Prop) (a : β) (hf : ∀ p q, f p q = p ∨ f p q = q)
    (hl : ∀ p, P p → f a p = a) (hr : ∀ p, P p → f p a = a) :
    ∀ (l : List β) (init : β), P init → (∀ q ∈ l, P q) → a ∈ l → l.foldl f init = a := by
  have stay : ∀ l : List β, (∀ q ∈ l, P q) → l.foldl f a = a := fun l => by
    induction l with
    | nil => intro _; rfl
    | cons q l ih =>
      intro h
      rw [List.foldl_cons, hl q (h q List.mem_cons_self)]
      exact ih fun q' hq' => h q' (List.mem_cons_of_mem _ hq')
  intro l
  induction l with
  | nil => intro _ _ _ h; exact absurd h List.not_mem_nil
  | cons q l ih =>
    intro init hi h ha
    have ht : ∀ q' ∈ l, P q' := fun q' hq' => h q' (List.mem_cons_of_mem _ hq')
    rw [List.foldl_cons]
    rcases List.mem_cons.1 ha with e | ha
    · rw [← e, hr init hi]; exact stay l ht
    · refine ih _ ?_ ht ha
      rcases hf init q with e | e
      · rw [e]; exact hi
      · rw [e]; exact h q List.mem_cons_self

theorem slt_iff {i j : ℕ} (hi : i < 8192) (hj : j < 8192) : (BitVec.ofNat 32 i).slt (BitVec.ofNat 32 j) = true ↔ i < j := by
  rw [BitVec.slt, decide_eq_true_iff, BitVec.toInt_eq_toNat_of_lt (by simp; omega), BitVec.toInt_eq_toNat_of_lt (by simp; omega)]
  simp only [BitVec.toNat_ofNat]
  omega

/-- The search over a row finds its first greatest element. -/
theorem argmax_at (x : FVec Ideal S128x32x8192 .f32) (a : Fin 128) (b : Fin 32) {k : Fin 8192}
    (hk : IsFirst (fun j => (x (ix3 a b j) : EReal)) k) (hb : (x (ix3 a b k) : EReal) ≠ ⊥) :
    Host.argReduce reducer_argmax_f32_i32 x (iotaInDim S128x32x8192 32 2) (constant (F := Ideal) S_ .f32 0xFF800000#32)
      (constantI S_ 32 0#32) reducesTo_S128x32x8192_S128x32_d2 h_S_ (ix2 a b) = (x (ix3 a b k), BitVec.ofNat 32 k.val) := by
  refine (congrFun (Ideal.argReduce_eq_reduce2 _ x _ _ _ reducesTo_S128x32x8192_S128x32_d2 h_S_) _).trans ?_
  refine (Host.reduce2_eq_foldl_fiber _ x _ _ _ reducesTo_S128x32x8192_S128x32_d2 h_S_ _).trans ?_
  refine search_eq _ (fun p : EReal × BitVec 32 => p = (⊥, 0#32) ∨ ∃ j : Fin 8192, p = (x (ix3 a b j), BitVec.ofNat 32 j.val))
    (x (ix3 a b k), BitVec.ofNat 32 k.val) ?_ ?_ ?_ _ _ ?_ ?_ ?_
  · intro p q
    rw [pick_eq]
    split
    · exact .inl rfl
    · exact .inr rfl
  · intro p hp
    rw [pick_eq]
    rcases hp with rfl | ⟨j, rfl⟩
    · exact if_pos (.inl (bot_lt_iff_ne_bot.2 hb))
    · rcases (hk.1 j).lt_or_eq with h | h
      · exact if_pos (.inl h)
      · rcases (hk.2 j h).lt_or_eq with h' | h'
        · exact if_pos (.inr ⟨h.symm, (slt_iff k.isLt j.isLt).2 h'⟩)
        · rw [h', ite_self]
  · intro p hp
    rw [pick_eq]
    refine if_neg ?_
    rcases hp with rfl | ⟨j, rfl⟩
    · rintro (h | h)
      · exact not_lt_bot h
      · exact hb h.1.symm
    · rintro (h | h)
      · exact absurd h (not_lt.2 (hk.1 j))
      · exact absurd ((slt_iff j.isLt k.isLt).1 h.2) (not_lt.2 (hk.2 j h.1))
  · exact .inl (Prod.ext Noise.ofBits_bot rfl)
  · intro q hq
    obtain ⟨n, hn, rfl⟩ := List.mem_map.1 hq
    obtain ⟨c, hc⟩ := of_drop (of_decide_eq_true (List.mem_filter.1 hn).2)
    refine .inr ⟨c, ?_⟩
    rw [hc]; rfl
  · refine List.mem_map.2 ⟨S128x32x8192.rowMajor (ix3 a b k), List.mem_filter.2 ⟨List.mem_finRange _, ?_⟩, ?_⟩
    · rw [Equiv.symm_apply_apply]
      exact decide_eq_true (drop_row a b k)
    · rw [Equiv.symm_apply_apply]; rfl

/-! ## The maximum, the sum and the softmax -/

theorem max_at (x : FVec Ideal S128x32x8192 .f32) (a : Fin 128) (b : Fin 32) {k : Fin 8192}
    (hk : IsFirst (fun j => (x (ix3 a b j) : EReal)) k) :
    Host.reduce (α := EReal) (FloatOps.maximumf (F := Ideal) (φ := .f32)) x (constant (F := Ideal) S_ .f32 0xFF800000#32)
      reducesTo_S128x32x8192_S128x32_d2 h_S_ (ix2 a b) = x (ix3 a b k) := by
  refine (Host.reduce_eq_fold_single (α := EReal) (max : EReal → EReal → EReal) x _ reducesTo_S128x32x8192_S128x32_d2 reduces_row h_S_ (ix2 a b)).trans ?_
  refine (fold_absorb max _ _ Finset.univ k (Finset.mem_univ _) ?_ ?_).trans ?_
  · exact max_eq_left (Noise.ofBits_bot.le.trans bot_le)
  · intro j _
    refine max_eq_left ?_
    show x _ ≤ x _
    rw [lift_row, lift_row]; exact hk.1 j
  · show x _ = _
    rw [lift_row]

theorem coe_sum {ι : Type} (s : Finset ι) (f : ι → ℝ) : ∑ j ∈ s, (f j : EReal) = ((∑ j ∈ s, f j : ℝ) : EReal) := by
  classical
  induction s using Finset.induction_on with
  | empty => rfl
  | insert a s ha ih => rw [Finset.sum_insert ha, Finset.sum_insert ha, ih, EReal.coe_add]

theorem sum_at (x : FVec Ideal S128x32x8192 .f32) (a : Fin 128) (b : Fin 32) {f : Fin 8192 → ℝ}
    (hx : ∀ j, x (ix3 a b j) = (f j : EReal)) :
    Host.reduceAdd (F := Ideal) (φ := .f32) x (constant (F := Ideal) S_ .f32 0x00000000#32)
      reducesTo_S128x32x8192_S128x32_d2 h_S_ (ix2 a b) = ((∑ j, f j : ℝ) : EReal) := by
  refine (Ideal.hostReduceAdd_single reducesTo_S128x32x8192_S128x32_d2 reduces_row x _ (ix2 a b)).trans ?_
  rw [show constant (F := Ideal) S_ .f32 0x00000000#32 (Shape.Idx.first h_S_) = (0 : EReal) from Ideal.ofBits_zero_f32, zero_add, ← coe_sum]
  refine Finset.sum_congr rfl fun j _ => ?_
  exact (congrArg x (lift_row a b j)).trans (hx j)

/-- A row's softmax. -/
def soft (z : Fin 8192 → ℝ) (k j : Fin 8192) : ℝ := Real.exp (z j - z k) * (∑ l, Real.exp (z l - z k))⁻¹

theorem sum_pos (z : Fin 8192 → ℝ) (k : Fin 8192) : 0 < ∑ l, Real.exp (z l - z k) :=
  Finset.sum_pos (fun _ _ => Real.exp_pos _) ⟨k, Finset.mem_univ k⟩

theorem div_coe (x : EReal) {r : ℝ} (h : r ≠ 0) : Ideal.div x (r : EReal) = x * ((r⁻¹ : ℝ) : EReal) := by
  unfold Ideal.div
  rw [if_neg (by exact_mod_cast h), EReal.coe_inv]

theorem soft_first {z : Fin 8192 → ℝ} {k : Fin 8192} (h : IsFirst z k) : IsFirst (fun j => (soft z k j : EReal)) k := by
  refine h.map (f := fun r : ℝ => ((Real.exp (r - z k) * (∑ l, Real.exp (z l - z k))⁻¹ : ℝ) : EReal)) fun r s hrs => ?_
  refine EReal.coe_lt_coe_iff.2 (mul_lt_mul_of_pos_right (Real.exp_lt_exp.2 (by linarith)) (inv_pos.2 (sum_pos z k)))

theorem first_of_coe {z : Fin 8192 → ℝ} {k : Fin 8192} (h : IsFirst (fun j => (z j : EReal)) k) : IsFirst z k :=
  ⟨fun j => EReal.coe_le_coe_iff.1 (h.1 j), fun j hj => h.2 j (congrArg _ hj)⟩

end Cert.Softmax

end
-- ==== Proof.RefValue.lean ====
module

public import proofs.«01_k».proof.Proof.RefHash
public import proofs.«01_k».proof.Proof.KernelValue
public import proofs.«01_k».proof.Proof.Softmax

@[expose] public section

/-! # The reference's result over the reals

  From the settled contents: the noisy logits, the softmax of each row, the index of its greatest element, the one-hot
  row of that index, and the softmax added and taken away again. For finite logits the result is the one-hot row. -/

noncomputable section

namespace Cert.Ref

open Idealize.ShloMosaic Idealize.ShloMosaic.TcCoe Idealize.ShloMosaic.StableHlo Idealize.ShloMosaic.ValueIdx
open Cert.ReferenceIdeal Cert.ReferenceIdeal.Gen Cert.Line Cert.First Cert.Noise Cert.Softmax

variable {W : Valuation τ sig (Elt Ideal)}

/-- A buffer of extended reals. -/
abbrev at3 (W : Valuation τ sig (Elt Ideal)) (r : TRef sig ⟨S128x32x8192, .f32⟩) : S128x32x8192.Idx → EReal := val W r

/-- The uniform variates from the random words. -/
theorem val_uniform (h : Settled W (ops (F := Ideal))) (i : S128x32x8192.Idx) :
    at3 W main_call0.v38 i = max (Ideal.ofBits .f32 0x00000000#32)
      ((Ideal.ofBits .f32 (IntOp.ori (IntOp.shrui .vector (Hash.hash .vector (BitVec.ofNat 32 (position i) + 42#32)) 9#32) 1065353216#32)
          - Ideal.ofBits .f32 0x3F800000#32)
        * (Ideal.ofBits .f32 0x3F800000#32 - Ideal.ofBits .f32 0x00000000#32) + Ideal.ofBits .f32 0x00000000#32) := by
  have hw := val_word h i
  have hk := h.left.left.left.left.left
  have hc := h.left.left.left.left.right.left.left
  have hs := h.left.left.left.left.right.right
  simp only [Settled, keyOps, List.forall_mem_cons] at hk
  obtain ⟨-, -, -, -, -, -, -, -, -, -, k0, k1, -⟩ := hk
  have c0 := (congrFun k0 main_cst).symm.trans (nullary_result ..)
  have c1 := (congrFun k1 main_cst_2).symm.trans (nullary_result ..)
  simp only [Settled, counters, List.forall_mem_cons] at hc
  obtain ⟨h0, h1, h2, h3, -⟩ := hc
  simp only [Settled, scaled, List.forall_mem_cons] at hs
  obtain ⟨s0, s1, s2, s3, s4, s5, s6, s7, s8, s9, s10, s11, s12, s13, s14, s15, s16, s17, -⟩ := hs
  have d2 : val W main_call0.v2 = fun _ => Ideal.ofBits .f32 0x00000000#32 := by
    rw [val_unary h2, val_unary h0]
    show broadcastInDim _ _ _ (W main_cst) = _
    rw [c0]; rfl
  have d3 : val W main_call0.v3 = fun _ => Ideal.ofBits .f32 0x3F800000#32 := by
    rw [val_unary h3, val_unary h1]
    show broadcastInDim _ _ _ (W main_cst_2) = _
    rw [c1]; rfl
  rw [← hw]
  show val W main_call0.v38 i = _
  rw [val_binary s17, val_unary s16, val_binary s15, val_unary s14, val_binary s13, val_unary s12, val_binary s11, val_binary s10,
    val_unary s9, val_nullary s8, val_unary s7, val_binary s6, val_unary s5, val_nullary s4, val_binary s3, val_unary s2,
    val_nullary s1, val_binary s0, d2, d3]
  rfl

/-- A buffer of one extended real to a row. -/
abbrev at2 (W : Valuation τ sig (Elt Ideal)) (r : TRef sig ⟨S128x32, .f32⟩) : S128x32.Idx → EReal := val W r

/-- The equations of the operations from the noise to the softmax, over the reals. -/
structure SoftEqs (W : Valuation τ sig (Elt Ideal)) : Prop where
  noisy : ∀ i, at3 W (.of main_v20) i = Ideal.div (at3 W (.of main_arg0) i + -Ideal.log (-Ideal.log (max (Ideal.ofBits .f32 0x2EDBE6FF#32)
    (at3 W main_call0.v38 i * Ideal.ofBits .f32 0x3F800000#32 + Ideal.ofBits .f32 0x2EDBE6FF#32)))) (Ideal.ofBits .f32 0x3F800000#32)
  greatest : at2 W (.of main_v21) = Host.reduce (FloatOps.maximumf (F := Ideal) (φ := .f32)) (at3 W (.of main_v20))
    (constant (F := Ideal) S_ .f32 0xFF800000#32) reducesTo_S128x32x8192_S128x32_d2 h_S_
  exps : ∀ (a : Fin 128) (b : Fin 32) (c : Fin 8192), at3 W (.of main_v27) (ix3 a b c) = Ideal.exp (at3 W (.of main_v20) (ix3 a b c)
    - max (Ideal.ofBits .f32 0xFF800000#32) (at2 W (.of main_v21) (ix2 a b)))
  total : at2 W (.of main_v28) = Host.reduceAdd (F := Ideal) (φ := .f32) (at3 W (.of main_v27))
    (constant (F := Ideal) S_ .f32 0x00000000#32) reducesTo_S128x32x8192_S128x32_d2 h_S_
  quotient : ∀ (a : Fin 128) (b : Fin 32) (c : Fin 8192), at3 W (.of main_v31) (ix3 a b c) = Ideal.div (at3 W (.of main_v27) (ix3 a b c))
    (at2 W (.of main_v28) (ix2 a b))

/-- A row's value, repeated along the row, is read back at the row. -/
theorem repeat_at {α : Type} (w : S128x32.Idx → α) (a : Fin 128) (b : Fin 32) (c : Fin 8192) :
    broadcastInDim S128x32x8192 ![0, 1, 2] bcast_S128x32x1_S128x32x8192_0_1_2
      (broadcastInDim S128x32x1 ![0, 1] bcast_S128x32_S128x32x1_0_1 w) (ix3 a b c) = w (ix2 a b) := by
  refine congrArg w (funext fun x => ?_)
  match x with
  | ⟨0, _⟩ => rfl
  | ⟨1, _⟩ => rfl

theorem soft_eqs (h : Settled W (softOps (F := Ideal))) : SoftEqs W := by
  simp only [Settled, softOps, List.forall_mem_cons] at h
  obtain ⟨h0, h1, h2, h3, h4, h5, h6, h7, h8, h9, h10, h11, h12, h13, h14, h15, h16, h17, h18, h19, h20, h21, h22, h23, h24, h25, h26,
    h27, h28, h29, h30, -⟩ := h
  have e0 := (congrFun h0 main_cst_3).symm.trans (nullary_result ..)
  have e1 := (congrFun h1 main_v8).symm.trans (unary_result ..)
  have e2 := (congrFun h2 main_v9).symm.trans (binary_result ..)
  have e3 := (congrFun h3 main_cst_4).symm.trans (nullary_result ..)
  have e4 := (congrFun h4 main_v10).symm.trans (unary_result ..)
  have e5 := (congrFun h5 main_v11).symm.trans (binary_result ..)
  have e6 := (congrFun h6 main_cst_5).symm.trans (nullary_result ..)
  have e7 := (congrFun h7 main_v12).symm.trans (unary_result ..)
  have e8 := (congrFun h8 main_v13).symm.trans (binary_result ..)
  have e9 := (congrFun h9 main_v14).symm.trans (unary_result ..)
  have e10 := (congrFun h10 main_v15).symm.trans (unary_result ..)
  have e11 := (congrFun h11 main_v16).symm.trans (unary_result ..)
  have e12 := (congrFun h12 main_v17).symm.trans (unary_result ..)
  have e13 := (congrFun h13 main_v18).symm.trans (binary_result ..)
  have e14 := (congrFun h14 main_cst_6).symm.trans (nullary_result ..)
  have e15 := (congrFun h15 main_v19).symm.trans (unary_result ..)
  have e16 := (congrFun h16 main_v20).symm.trans (binary_result ..)
  have e17 := (congrFun h17 main_cst_7).symm.trans (nullary_result ..)
  have e18 := (congrFun h18 main_v21).symm.trans (binary_result ..)
  have e19 := (congrFun h19 main_cst_8).symm.trans (nullary_result ..)
  have e20 := (congrFun h20 main_v22).symm.trans (unary_result ..)
  have e21 := (congrFun h21 main_v23).symm.trans (binary_result ..)
  have e22 := (congrFun h22 main_v24).symm.trans (unary_result ..)
  have e23 := (congrFun h23 main_v25).symm.trans (unary_result ..)
  have e24 := (congrFun h24 main_v26).symm.trans (binary_result ..)
  have e25 := (congrFun h25 main_v27).symm.trans (unary_result ..)
  have e26 := (congrFun h26 main_cst_9).symm.trans (nullary_result ..)
  have e27 := (congrFun h27 main_v28).symm.trans (binary_result ..)
  have e28 := (congrFun h28 main_v29).symm.trans (unary_result ..)
  have e29 := (congrFun h29 main_v30).symm.trans (unary_result ..)
  have e30 := (congrFun h30 main_v31).symm.trans (binary_result ..)
  refine ⟨fun i => ?_, ?_, fun a b c => ?_, ?_, fun a b c => ?_⟩
  · refine (congrFun e16 i).trans ?_
    rw [e13, e12, e11, e10, e9, e8, e7, e6, e5, e4, e3, e2, e1, e0, e15, e14]
    rfl
  · rw [e17] at e18
    exact e18
  · have m23 : at2 W (.of main_v23) (ix2 a b) = max (Ideal.ofBits .f32 0xFF800000#32) (at2 W (.of main_v21) (ix2 a b)) := by
      rw [e20, e19] at e21
      exact congrFun e21 _
    have m25 : at3 W (.of main_v25) (ix3 a b c) = at2 W (.of main_v23) (ix2 a b) := by
      rw [e22] at e23
      exact (congrFun e23 _).trans (repeat_at (at2 W (.of main_v23)) a b c)
    rw [← m23, ← m25]
    rw [e24] at e25
    exact congrFun e25 _
  · rw [e26] at e27
    exact e27
  · have m30 : at3 W (.of main_v30) (ix3 a b c) = at2 W (.of main_v28) (ix2 a b) := by
      rw [e28] at e29
      exact (congrFun e29 _).trans (repeat_at (at2 W (.of main_v28)) a b c)
    rw [← m30]
    exact congrFun e30 _

/-- The words of a row as the kernel counts them and as the reference does. -/
theorem word_eq (a : Fin 128) (b : Fin 32) (j : Fin 8192) :
    BitVec.ofNat 32 (position (ix3 a b j)) + 42#32 = BitVec.ofNat 32 ((32 * a.val + b.val) * 8192 + 42 + j.val) := by
  rw [← BitVec.ofNat_add]
  refine congrArg _ ?_
  show 262144 * a.val + 8192 * b.val + j.val + 42 = _
  omega

/-- The noisy logits. -/
theorem val_noisy (h : Settled W (ops (F := Ideal))) (a : Fin 128) (b : Fin 32) (j : Fin 8192) :
    at3 W (.of main_v20) (ix3 a b j) = Value.noisyRow (at3 W (.of main_arg0)) a b j := by
  rw [(soft_eqs h.left.left.left.right).noisy, val_uniform h, word_eq, reference_eq, ofBits_one, div_coe _ one_ne_zero, inv_one, EReal.coe_one, mul_one]
  rfl

/-- The softmax of a row of finite noisy logits. -/
theorem val_soft (h : Settled W (ops (F := Ideal))) (a : Fin 128) (b : Fin 32) {z : Fin 8192 → ℝ} {k : Fin 8192}
    (hz : ∀ j, at3 W (.of main_v20) (ix3 a b j) = (z j : EReal)) (hk : IsFirst z k) (c : Fin 8192) :
    at3 W (.of main_v31) (ix3 a b c) = (soft z k c : EReal) := by
  have e := soft_eqs h.left.left.left.right
  have hk' : IsFirst (fun j => at3 W (.of main_v20) (ix3 a b j)) k := by
    rw [funext hz]; exact hk.map EReal.coe_strictMono
  have g : at2 W (.of main_v21) (ix2 a b) = (z k : EReal) :=
    (congrFun e.greatest _).trans ((Softmax.max_at (at3 W (.of main_v20)) a b hk').trans (hz k))
  have x : ∀ j, at3 W (.of main_v27) (ix3 a b j) = ((Real.exp (z j - z k) : ℝ) : EReal) := fun j => by
    rw [e.exps, hz, g, ofBits_bot, max_eq_right bot_le, ← EReal.coe_sub]; rfl
  have t : at2 W (.of main_v28) (ix2 a b) = ((∑ j, Real.exp (z j - z k) : ℝ) : EReal) :=
    (congrFun e.total _).trans (sum_at (at3 W (.of main_v27)) a b x)
  rw [e.quotient, x, t, div_coe _ (sum_pos z k).ne', ← EReal.coe_mul]
  rfl

/-- The index of a row's greatest element. -/
theorem val_index (h : Settled W (argmaxOps (F := Ideal) (.of main_v31) main_call1)) (a : Fin 128) (b : Fin 32) {k : Fin 8192}
    (hk : IsFirst (fun j => at3 W (.of main_v31) (ix3 a b j)) k) (hb : at3 W (.of main_v31) (ix3 a b k) ≠ ⊥) :
    val W main_call1.v1_1 (ix2 a b) = BitVec.ofNat 32 k.val := by
  simp only [Settled, argmaxOps, List.forall_mem_cons] at h
  obtain ⟨h0, h1, h2, -, h4, -⟩ := h
  rw [val_quaternary h4, val_nullary h0, val_nullary h1, val_nullary h2]
  exact congrArg Prod.snd (argmax_at (at3 W (.of main_v31)) a b hk hb)

/-- The one-hot row of an index. -/
theorem val_oneHot (h : Settled W (oneHotOps (F := Ideal) (.of main_v32) main_call2)) (a : Fin 128) (b : Fin 32) (c : Fin 8192)
    {k : Fin 8192} (hk : val W main_call1.v1_1 (ix2 a b) = BitVec.ofNat 32 k.val) :
    at3 W main_call2.v5 (ix3 a b c) = if c = k then 1 else 0 := by
  simp only [Settled, oneHotOps, List.forall_mem_cons] at h
  obtain ⟨h0, h1, h2, h3, h4, h5, -⟩ := h
  have e2 : val W main_call2.v2 (ix3 a b c) = BitVec.ofNat 32 k.val := by
    rw [val_unary h2, val_unary h0]
    exact (repeat_at (val W main_call1.v1_1) a b c).trans hk
  have e3 : val W main_call2.v3 (ix3 a b c) = BitVec.ofNat 32 c.val := by
    rw [val_unary h3, val_nullary h1]; rfl
  show val W main_call2.v5 (ix3 a b c) = _
  rw [val_unary h5, val_binary h4]
  show (((IntOp.cmpi .eq (val W main_call2.v2 (ix3 a b c)) (val W main_call2.v3 (ix3 a b c))).toNat : ℝ) : EReal) = _
  rw [e2, e3]
  show (((BitVec.ofBool (BitVec.ofNat 32 k.val == BitVec.ofNat 32 c.val)).toNat : ℝ) : EReal) = _
  have hk' : k.val < 8192 := k.isLt
  have hc' : c.val < 8192 := c.isLt
  by_cases hc : c = k
  · rw [if_pos hc, hc, beq_self_eq_true]; simp
  · have hb : (BitVec.ofNat 32 k.val == BitVec.ofNat 32 c.val) = false := by
      rw [beq_eq_false_iff_ne]
      intro he
      have := congrArg BitVec.toNat he
      simp only [BitVec.toNat_ofNat] at this
      exact hc (Fin.ext (by omega))
    rw [if_neg hc, hb]; simp

/-- For finite logits the reference's result is the one-hot row of the first greatest noisy logit. -/
theorem value_at (h : Settled W (ops (F := Ideal))) {x : S128x32x8192.Idx → ℝ} (hx : ∀ i, at3 W (.of main_arg0) i = (x i : EReal))
    (a : Fin 128) (b : Fin 32) (c : Fin 8192) {k : Fin 8192} (hk : IsFirst (Value.noisyRow (at3 W (.of main_arg0)) a b) k) :
    at3 W (.of main_v35) (ix3 a b c) = if c = k then 1 else 0 := by
  obtain ⟨z, hz⟩ : ∃ z : Fin 8192 → ℝ, ∀ j, Value.noisyRow (at3 W (.of main_arg0)) a b j = (z j : EReal) :=
    ⟨fun j => x (ix3 a b j) + gumbel (Hash.hash .vector (BitVec.ofNat 32 ((32 * a.val + b.val) * 8192 + 42 + j.val))), fun j => by
      rw [EReal.coe_add, ← hx]; rfl⟩
  rw [funext hz] at hk
  have hk := first_of_coe hk
  have s := val_soft h a b (fun j => (val_noisy h a b j).trans (hz j)) hk
  have hs : IsFirst (fun j => at3 W (.of main_v31) (ix3 a b j)) k := by
    rw [funext s]; exact soft_first hk
  have o := val_oneHot h.left.right a b c (val_index h.left.left.right a b hs (by rw [s]; exact EReal.coe_ne_bot _))
  have ht := h.right
  simp only [Settled, throughOps, List.forall_mem_cons] at ht
  obtain ⟨t0, t1, -⟩ := ht
  have e0 := (congrFun t0 main_v34).symm.trans (binary_result ..)
  have e1 := (congrFun t1 main_v35).symm.trans (binary_result ..)
  rw [e0] at e1
  refine (congrFun e1 _).trans ?_
  show (at3 W main_call2.v5 (ix3 a b c) + at3 W (.of main_v31) (ix3 a b c)) - at3 W (.of main_v31) (ix3 a b c) = _
  rw [o, s]
  split
  · rw [← EReal.coe_one, ← EReal.coe_add, ← EReal.coe_sub, add_sub_cancel_right]
  · rw [← EReal.coe_zero, ← EReal.coe_add, ← EReal.coe_sub, add_sub_cancel_right]

end Cert.Ref

end
-- ==== Proof.Algebraic.lean ====
module

public import proofs.«01_k».proof.Defs
public import proofs.«01_k».proof.Proof.Gen.Pre_finite
public import proofs.«01_k».proof.Proof.RefValue

@[expose] public section

/-! # The two programs give the same result over the reals

  The precondition says that every logit is finite. Each row of noisy logits has a first greatest element, and both
  results are one there and zero elsewhere. -/

noncomputable section

namespace Cert.Proof

open Idealize.ShloMosaic Idealize.ShloMosaic.ValueIdx Idealize.ShloMosaic.SparseCore Idealize.SL.Sem

theorem and_one : ∀ a b : BitVec 1, IntOp.andi a b = 1#1 → a = 1#1 ∧ b = 1#1 := by decide

/-- A conjunction that is true has only true members. -/
theorem all_one {ι : Type} (x : ι → BitVec 1) (s : Finset ι) (h : s.fold IntOp.andi 1#1 x = 1#1) : ∀ i ∈ s, x i = 1#1 := by
  classical
  induction s using Finset.induction_on with
  | empty => intro i hi; exact absurd hi (Finset.notMem_empty _)
  | insert a s ha ih =>
    rw [Finset.fold_insert ha] at h
    have h := and_one _ _ h
    intro i hi
    rcases Finset.mem_insert.1 hi with rfl | hi
    · exact h.1
    · exact ih h.2 i hi

/-- Under the precondition every element is a real number. -/
theorem real_of_finite (x : FVec Ideal Cert.Pre_finite.S128x32x8192 .f32) (h : Cert.Pre_finite.fn (F := Ideal) x = fun _ => 1#1)
    (i : Cert.Pre_finite.S128x32x8192.Idx) : (x i : EReal) = ((x i : EReal).toReal : EReal) := by
  have e := congrFun h (fun a => a.elim0)
  unfold Cert.Pre_finite.fn at e
  have e := (Host.reduce_eq_fold IntOp.andi _ _ _ _ _).symm.trans e
  have hi := all_one _ _ e i (Finset.mem_filter.2 ⟨Finset.mem_univ _, funext fun a => a.elim0⟩)
  have hlt : max (x i : EReal) (-(x i : EReal)) < ⊤ := by
    rw [← Noise.ofBits_top]
    by_contra hn
    have : BitVec.ofBool (decide (max (x i : EReal) (-(x i : EReal)) < Ideal.ofBits .f32 0x7F800000#32)) = 1#1 := hi
    rw [decide_eq_false hn] at this
    exact absurd this (by decide)
  refine (EReal.coe_toReal ?_ ?_).symm
  · intro ht
    exact absurd (lt_of_le_of_lt (le_max_left _ _) hlt) (by rw [ht]; exact lt_irrefl _)
  · intro hb
    exact absurd (lt_of_le_of_lt (le_max_right _ _) hlt) (by rw [hb]; exact lt_irrefl _)

/-- Equal finite arguments give equal results. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : Cert.Pre_KernelIdeal_finite m) (d : Dev Cert.KernelIdeal.nD)
    (he : m' ((d.tc : Thread Cert.ReferenceIdeal.nD Cert.ReferenceIdeal.τ).loc Cert.ReferenceIdeal.main_arg0)
      = m ((d.tc : Thread Cert.KernelIdeal.nD Cert.KernelIdeal.τ).loc Cert.KernelIdeal.main_arg0)) :
    Cert.Ref.at3 (Cert.Ref.last m' d) (.of Cert.ReferenceIdeal.main_v35) = Cert.Proof.Run.result m d := by
  have ha : Cert.Ref.at3 (Cert.Ref.last m' d) (.of Cert.ReferenceIdeal.main_arg0) = Cert.Value.arg m d :=
    (Cert.Ref.last_arg m' d).trans he
  funext i
  obtain ⟨k, hk⟩ := Cert.First.exists_first (by decide : 0 < 8192) (Cert.Value.noisyRow (Cert.Value.arg m d) (i 0) (i 1))
  have hi : i = ix3 (i 0 : Fin 128) (i 1 : Fin 32) (i 2 : Fin 8192) := eq_ix3 i
  have r := Cert.Ref.value_at (Cert.Ref.last_settled m' d) (x := fun i => (Cert.Value.arg m d i).toReal)
    (fun j => by rw [ha]; exact real_of_finite _ (hm d) j) (i 0) (i 1) (i 2) (by rw [ha]; exact hk)
  have s := Cert.Value.result_at m d (i 0) (i 1) (i 2) hk
  exact (congrArg _ hi).trans (r.trans (s.symm.trans (congrArg _ hi.symm)))

theorem algebraic : Cert.algebraic_KernelIdeal_ReferenceIdeal_pre_finite := by
  intro m g m' g' hm he
  refine ⟨fun d => Cert.Proof.Run.result m d, ?_, ?_⟩
  · refine (θ_run _ _ _).mono (fun r h d => ⟨(h.1 d).2, (h.1 d).1⟩) (Cert.Proof.Run.run_main m g)
  · refine (θ_run _ _ _).mono (fun r h d => ⟨?_, ?_⟩) (Cert.Ref.run_main m' g')
    · exact (h.1 d _).trans (results_eq m m' hm d (he d))
    · exact (h.1 d _).trans (Cert.Ref.last_arg m' d)

end Cert.Proof

end
-- ==== Proof.lean ====
module
public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel
public import proofs.«01_k».proof.Proof.Gen.Pre_finite
public import proofs.«01_k».proof.Proof.Frames
public import proofs.«01_k».proof.Proof.Algebraic
public import Idealize.ShloMosaic.Adequacy
public import Idealize.ShloMosaic.Init
@[expose] public section
noncomputable section
namespace Cert.Proof

/-- Everything the certificate claims. -/
theorem claim : Cert.Claim :=
  ⟨Cert.Kernel.Gen.facts, Cert.KernelIdeal.Gen.facts, Cert.ReferenceIdeal.Gen.facts, Cert.Pre_finite.Gen.facts,
    frame_kernel, fun m g _ => frame_any (F := Idealize.ShloMosaic.Ideal) m g, fun m g _ => frame_any (F := Idealize.ShloMosaic.Ideal) m g,
    fun m g _ => frame_reference m g, fun m g _ => frame_reference m g, trivial, algebraic⟩

end Cert.Proof
